-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![2048, 512]⟩ ⟨2, ![4096, 512]⟩ (Layout.meshBlock [2, 2, 2] ![[0], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x512 : Shape := ⟨2, ![2048, 512]⟩
abbrev S4096x512 : Shape := ⟨2, ![4096, 512]⟩
abbrev S11 : Shape := ⟨1, ![11]⟩
abbrev S10 : Shape := ⟨1, ![10]⟩
abbrev S_ : Shape := ⟨0, ![]⟩
abbrev S64x512 : Shape := ⟨2, ![64, 512]⟩
abbrev S1 : Shape := ⟨1, ![1]⟩
abbrev S512x512 : Shape := ⟨2, ![512, 512]⟩
abbrev S320x512 : Shape := ⟨2, ![320, 512]⟩

abbrev nBuf : Space → Nat
  | .hbm => 2
  | .vmem => 2
  | .smem => 0
  | _ => 0

abbrev bufTy : (tb : Table) → Fin (tcTables nBuf tb) → BufTy
  | .hbm, ⟨0, _⟩ => ⟨S2048x512, .bf16⟩
  | .hbm, ⟨1, _⟩ => ⟨S4096x512, .bf16⟩
  | .local _ .vmem, ⟨0, _⟩ => ⟨S2048x512, .bf16⟩
  | .local _ .vmem, ⟨1, _⟩ => ⟨S4096x512, .bf16⟩
  | _, _ => ⟨S2048x512, .bf16⟩

abbrev bufScoped : (cs : CoreSpace) → Fin (nBuf (.core cs)) → Bool
  | .vmem, ⟨0, _⟩ => true
  | .vmem, ⟨1, _⟩ => true
  | _, _ => false

abbrev semScoped : Fin 1 → Bool
  | ⟨0, _⟩ => false
  | _ => false

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  (ofTc nBuf bufTy 1 66 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_17 : BitVec 32 := 4#32
  let v28 : BitVec 32 := Scalar.muli v9 c4_i32_17
  let v29 : BitVec 32 := Scalar.addi c0_i32 v28
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_18 : BitVec 32 := 2#32
  let v30 : BitVec 32 := Scalar.muli v5 c2_i32_18
  let v31 : BitVec 32 := Scalar.addi v29 v30
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_19 : BitVec 32 := 1#32
  let v32 : BitVec 32 := Scalar.muli v8 c1_i32_19
  let v33 : BitVec 32 := Scalar.addi v31 v32
  v33.toNat
def k0_dev2 (d0 : Dev nD) : Nat :=
  let c0_i32_22 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_21 : BitVec 32 := 4#32
  let v34 : BitVec 32 := Scalar.muli v2 c4_i32_21
  let v35 : BitVec 32 := Scalar.addi c0_i32_22 v34
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_23 : BitVec 32 := 2#32
  let v36 : BitVec 32 := Scalar.muli v10 c2_i32_23
  let v37 : BitVec 32 := Scalar.addi v35 v36
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_24 : BitVec 32 := 1#32
  let v38 : BitVec 32 := Scalar.muli v8 c1_i32_24
  let v39 : BitVec 32 := Scalar.addi v37 v38
  v39.toNat
def k0_dev3 (d0 : Dev nD) : Nat :=
  let c0_i32_27 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_26 : BitVec 32 := 4#32
  let v40 : BitVec 32 := Scalar.muli v2 c4_i32_26
  let v41 : BitVec 32 := Scalar.addi c0_i32_27 v40
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_28 : BitVec 32 := 2#32
  let v42 : BitVec 32 := Scalar.muli v5 c2_i32_28
  let v43 : BitVec 32 := Scalar.addi v41 v42
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_29 : BitVec 32 := 1#32
  let v44 : BitVec 32 := Scalar.muli v11 c1_i32_29
  let v45 : BitVec 32 := Scalar.addi v43 v44
  v45.toNat
def k0_off1 (d0 : Dev nD) (c0_i32_30 : BitVec 32) : Fin 2 → Nat :=
  let c2_i32_6 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.muli c2_i32_6 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c512_i32 : BitVec 32 := 512#32
  let v46 : BitVec 32 := Scalar.muli v13 c512_i32
  let v47 : BitVec 32 := Scalar.addi v46 c0_i32_30
  let v48 : Index := Scalar.indexCast v47
  let c0 : Index := 0#32
  ![v48.toNat, 0]
def k0_off2 (d0 : Dev nD) (c0_i32_30 : BitVec 32) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2048_i32 : BitVec 32 := 2048#32
  let v24 : BitVec 32 := Scalar.muli v2 c2048_i32
  let c2_i32_6 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.muli c2_i32_6 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c512_i32 : BitVec 32 := 512#32
  let v46 : BitVec 32 := Scalar.muli v13 c512_i32
  let v47 : BitVec 32 := Scalar.addi v46 c0_i32_30
  let v51 : BitVec 32 := Scalar.addi v24 v47
  let v52 : Index := Scalar.indexCast v51
  let c0_31 : Index := 0#32
  ![v52.toNat, 0]
def k0_off3 (d0 : Dev nD) (c0_i32_30 : BitVec 32) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2048_i32 : BitVec 32 := 2048#32
  let v24 : BitVec 32 := Scalar.muli v2 c2048_i32
  let c2_i32_6 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.muli c2_i32_6 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c512_i32 : BitVec 32 := 512#32
  let v46 : BitVec 32 := Scalar.muli v13 c512_i32
  let v47 : BitVec 32 := Scalar.addi v46 c0_i32_30
  let v54 : BitVec 32 := Scalar.addi v24 v47
  let c0_i32_38 : BitVec 32 := 0#32
  ![v54.toNat, 0]
def k0_dev4 (d0 : Dev nD) : Nat :=
  let c0_i32_35 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_34 : BitVec 32 := 4#32
  let v55 : BitVec 32 := Scalar.muli v9 c4_i32_34
  let v56 : BitVec 32 := Scalar.addi c0_i32_35 v55
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_36 : BitVec 32 := 2#32
  let v57 : BitVec 32 := Scalar.muli v5 c2_i32_36
  let v58 : BitVec 32 := Scalar.addi v56 v57
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_37 : BitVec 32 := 1#32
  let v59 : BitVec 32 := Scalar.muli v8 c1_i32_37
  let v60 : BitVec 32 := Scalar.addi v58 v59
  v60.toNat
def k0_dev5 (d0 : Dev nD) : Nat :=
  let c0_i32_46 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_45 : BitVec 32 := 4#32
  let v76 : BitVec 32 := Scalar.muli v9 c4_i32_45
  let v77 : BitVec 32 := Scalar.addi c0_i32_46 v76
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_47 : BitVec 32 := 2#32
  let v78 : BitVec 32 := Scalar.muli v5 c2_i32_47
  let v79 : BitVec 32 := Scalar.addi v77 v78
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_48 : BitVec 32 := 1#32
  let v80 : BitVec 32 := Scalar.muli v8 c1_i32_48
  let v81 : BitVec 32 := Scalar.addi v79 v80
  v81.toNat
def k0_dev6 (d0 : Dev nD) : Nat :=
  let c0_i32_57 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_56 : BitVec 32 := 4#32
  let v97 : BitVec 32 := Scalar.muli v9 c4_i32_56
  let v98 : BitVec 32 := Scalar.addi c0_i32_57 v97
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_58 : BitVec 32 := 2#32
  let v99 : BitVec 32 := Scalar.muli v5 c2_i32_58
  let v100 : BitVec 32 := Scalar.addi v98 v99
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_59 : BitVec 32 := 1#32
  let v101 : BitVec 32 := Scalar.muli v8 c1_i32_59
  let v102 : BitVec 32 := Scalar.addi v100 v101
  v102.toNat
def k0_dev7 (d0 : Dev nD) : Nat :=
  let c0_i32_68 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_67 : BitVec 32 := 4#32
  let v118 : BitVec 32 := Scalar.muli v9 c4_i32_67
  let v119 : BitVec 32 := Scalar.addi c0_i32_68 v118
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_69 : BitVec 32 := 2#32
  let v120 : BitVec 32 := Scalar.muli v5 c2_i32_69
  let v121 : BitVec 32 := Scalar.addi v119 v120
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_70 : BitVec 32 := 1#32
  let v122 : BitVec 32 := Scalar.muli v8 c1_i32_70
  let v123 : BitVec 32 := Scalar.addi v121 v122
  v123.toNat
def k0_dev8 (d0 : Dev nD) : Nat :=
  let c0_i32_79 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_78 : BitVec 32 := 4#32
  let v139 : BitVec 32 := Scalar.muli v9 c4_i32_78
  let v140 : BitVec 32 := Scalar.addi c0_i32_79 v139
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_80 : BitVec 32 := 2#32
  let v141 : BitVec 32 := Scalar.muli v5 c2_i32_80
  let v142 : BitVec 32 := Scalar.addi v140 v141
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_81 : BitVec 32 := 1#32
  let v143 : BitVec 32 := Scalar.muli v8 c1_i32_81
  let v144 : BitVec 32 := Scalar.addi v142 v143
  v144.toNat
def k0_dev9 (d0 : Dev nD) : Nat :=
  let c0_i32_89 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_88 : BitVec 32 := 4#32
  let v160 : BitVec 32 := Scalar.muli v9 c4_i32_88
  let v161 : BitVec 32 := Scalar.addi c0_i32_89 v160
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_90 : BitVec 32 := 2#32
  let v162 : BitVec 32 := Scalar.muli v5 c2_i32_90
  let v163 : BitVec 32 := Scalar.addi v161 v162
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_91 : BitVec 32 := 1#32
  let v164 : BitVec 32 := Scalar.muli v8 c1_i32_91
  let v165 : BitVec 32 := Scalar.addi v163 v164
  v165.toNat
def k0_dev10 (d0 : Dev nD) : Nat :=
  let c0_i32_99 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_98 : BitVec 32 := 4#32
  let v181 : BitVec 32 := Scalar.muli v9 c4_i32_98
  let v182 : BitVec 32 := Scalar.addi c0_i32_99 v181
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_100 : BitVec 32 := 2#32
  let v183 : BitVec 32 := Scalar.muli v5 c2_i32_100
  let v184 : BitVec 32 := Scalar.addi v182 v183
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_101 : BitVec 32 := 1#32
  let v185 : BitVec 32 := Scalar.muli v8 c1_i32_101
  let v186 : BitVec 32 := Scalar.addi v184 v185
  v186.toNat
def k0_dev11 (d0 : Dev nD) : Nat :=
  let c0_i32_109 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_108 : BitVec 32 := 4#32
  let v202 : BitVec 32 := Scalar.muli v9 c4_i32_108
  let v203 : BitVec 32 := Scalar.addi c0_i32_109 v202
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_110 : BitVec 32 := 2#32
  let v204 : BitVec 32 := Scalar.muli v5 c2_i32_110
  let v205 : BitVec 32 := Scalar.addi v203 v204
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_111 : BitVec 32 := 1#32
  let v206 : BitVec 32 := Scalar.muli v8 c1_i32_111
  let v207 : BitVec 32 := Scalar.addi v205 v206
  v207.toNat
def k0_off4 (d0 : Dev nD) (c0_i32_115 : BitVec 32) : Fin 2 → Nat :=
  let c2_i32_12 : BitVec 32 := 2#32
  let c1_i32_11 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v20 : BitVec 32 := Scalar.subi c1_i32_11 v5
  let v21 : BitVec 32 := Scalar.muli c2_i32_12 v20
  let c1_i32_13 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v22 : BitVec 32 := Scalar.subi c1_i32_13 v8
  let v23 : BitVec 32 := Scalar.addi v21 v22
  let c512_i32_114 : BitVec 32 := 512#32
  let v214 : BitVec 32 := Scalar.muli v23 c512_i32_114
  let v215 : BitVec 32 := Scalar.addi v214 c0_i32_115
  let v216 : Index := Scalar.indexCast v215
  let c0_116 : Index := 0#32
  ![v216.toNat, 0]
def k0_off5 (d0 : Dev nD) (c0_i32_115 : BitVec 32) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2048_i32 : BitVec 32 := 2048#32
  let v24 : BitVec 32 := Scalar.muli v2 c2048_i32
  let c2_i32_12 : BitVec 32 := 2#32
  let c1_i32_11 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v20 : BitVec 32 := Scalar.subi c1_i32_11 v5
  let v21 : BitVec 32 := Scalar.muli c2_i32_12 v20
  let c1_i32_13 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v22 : BitVec 32 := Scalar.subi c1_i32_13 v8
  let v23 : BitVec 32 := Scalar.addi v21 v22
  let c512_i32_114 : BitVec 32 := 512#32
  let v214 : BitVec 32 := Scalar.muli v23 c512_i32_114
  let v215 : BitVec 32 := Scalar.addi v214 c0_i32_115
  let v219 : BitVec 32 := Scalar.addi v24 v215
  let v220 : Index := Scalar.indexCast v219
  let c0_117 : Index := 0#32
  ![v220.toNat, 0]
def k0_off6 (d0 : Dev nD) (c0_i32_115 : BitVec 32) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2048_i32 : BitVec 32 := 2048#32
  let v24 : BitVec 32 := Scalar.muli v2 c2048_i32
  let c2_i32_12 : BitVec 32 := 2#32
  let c1_i32_11 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v20 : BitVec 32 := Scalar.subi c1_i32_11 v5
  let v21 : BitVec 32 := Scalar.muli c2_i32_12 v20
  let c1_i32_13 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v22 : BitVec 32 := Scalar.subi c1_i32_13 v8
  let v23 : BitVec 32 := Scalar.addi v21 v22
  let c512_i32_114 : BitVec 32 := 512#32
  let v214 : BitVec 32 := Scalar.muli v23 c512_i32_114
  let v215 : BitVec 32 := Scalar.addi v214 c0_i32_115
  let v222 : BitVec 32 := Scalar.addi v24 v215
  let c0_i32_123 : BitVec 32 := 0#32
  ![v222.toNat, 0]
def k0_dev12 (d0 : Dev nD) : Nat :=
  let c0_i32_120 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_119 : BitVec 32 := 4#32
  let v223 : BitVec 32 := Scalar.muli v9 c4_i32_119
  let v224 : BitVec 32 := Scalar.addi c0_i32_120 v223
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_121 : BitVec 32 := 2#32
  let v225 : BitVec 32 := Scalar.muli v5 c2_i32_121
  let v226 : BitVec 32 := Scalar.addi v224 v225
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_122 : BitVec 32 := 1#32
  let v227 : BitVec 32 := Scalar.muli v8 c1_i32_122
  let v228 : BitVec 32 := Scalar.addi v226 v227
  v228.toNat
def k0_dev13 (d0 : Dev nD) : Nat :=
  let c0_i32_131 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_130 : BitVec 32 := 4#32
  let v244 : BitVec 32 := Scalar.muli v9 c4_i32_130
  let v245 : BitVec 32 := Scalar.addi c0_i32_131 v244
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_132 : BitVec 32 := 2#32
  let v246 : BitVec 32 := Scalar.muli v5 c2_i32_132
  let v247 : BitVec 32 := Scalar.addi v245 v246
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_133 : BitVec 32 := 1#32
  let v248 : BitVec 32 := Scalar.muli v8 c1_i32_133
  let v249 : BitVec 32 := Scalar.addi v247 v248
  v249.toNat
def k0_dev14 (d0 : Dev nD) : Nat :=
  let c0_i32_142 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_141 : BitVec 32 := 4#32
  let v265 : BitVec 32 := Scalar.muli v9 c4_i32_141
  let v266 : BitVec 32 := Scalar.addi c0_i32_142 v265
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_143 : BitVec 32 := 2#32
  let v267 : BitVec 32 := Scalar.muli v5 c2_i32_143
  let v268 : BitVec 32 := Scalar.addi v266 v267
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_144 : BitVec 32 := 1#32
  let v269 : BitVec 32 := Scalar.muli v8 c1_i32_144
  let v270 : BitVec 32 := Scalar.addi v268 v269
  v270.toNat
def k0_cond1 (d0 : Dev nD) : BitVec 1 :=
  let c2_i32_6 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.muli c2_i32_6 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c0_i32_147 : BitVec 32 := 0#32
  let v277 : BitVec 1 := Scalar.cmpi .ne v13 c0_i32_147
  let c2_i32_12 : BitVec 32 := 2#32
  let c1_i32_11 : BitVec 32 := 1#32
  let v20 : BitVec 32 := Scalar.subi c1_i32_11 v5
  let v21 : BitVec 32 := Scalar.muli c2_i32_12 v20
  let c1_i32_13 : BitVec 32 := 1#32
  let v22 : BitVec 32 := Scalar.subi c1_i32_13 v8
  let v23 : BitVec 32 := Scalar.addi v21 v22
  let c0_i32_148 : BitVec 32 := 0#32
  let v278 : BitVec 1 := Scalar.cmpi .ne v23 c0_i32_148
  let v279 : BitVec 1 := Scalar.andi v277 v278
  let v280 : BitVec 32 := Scalar.extui v279
  let c0_i32_149 : BitVec 32 := 0#32
  let v281 : BitVec 1 := Scalar.cmpi .ne v280 c0_i32_149
  v281

def k0_off7 (d0 : Dev nD) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2048_i32 : BitVec 32 := 2048#32
  let v24 : BitVec 32 := Scalar.muli v2 c2048_i32
  let c0_i32_825 : BitVec 32 := 0#32
  let v1120 : BitVec 32 := Scalar.addi v24 c0_i32_825
  let v1121 : Index := Scalar.indexCast v1120
  let c0_826 : Index := 0#32
  ![v1121.toNat, 0]
def k0_cond2 (d0 : Dev nD) : BitVec 1 :=
  let c2_i32_6 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.muli c2_i32_6 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c1_i32_150 : BitVec 32 := 1#32
  let v282 : BitVec 1 := Scalar.cmpi .ne v13 c1_i32_150
  let c2_i32_12 : BitVec 32 := 2#32
  let c1_i32_11 : BitVec 32 := 1#32
  let v20 : BitVec 32 := Scalar.subi c1_i32_11 v5
  let v21 : BitVec 32 := Scalar.muli c2_i32_12 v20
  let c1_i32_13 : BitVec 32 := 1#32
  let v22 : BitVec 32 := Scalar.subi c1_i32_13 v8
  let v23 : BitVec 32 := Scalar.addi v21 v22
  let c1_i32_151 : BitVec 32 := 1#32
  let v283 : BitVec 1 := Scalar.cmpi .ne v23 c1_i32_151
  let v284 : BitVec 1 := Scalar.andi v282 v283
  let v285 : BitVec 32 := Scalar.extui v284
  let c0_i32_152 : BitVec 32 := 0#32
  let v286 : BitVec 1 := Scalar.cmpi .ne v285 c0_i32_152
  v286

def k0_off8 (d0 : Dev nD) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2048_i32 : BitVec 32 := 2048#32
  let v24 : BitVec 32 := Scalar.muli v2 c2048_i32
  let c512_i32_824 : BitVec 32 := 512#32
  let v1120 : BitVec 32 := Scalar.addi v24 c512_i32_824
  let v1121 : Index := Scalar.indexCast v1120
  let c0_825 : Index := 0#32
  ![v1121.toNat, 0]
def k0_cond3 (d0 : Dev nD) : BitVec 1 :=
  let c2_i32_6 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.muli c2_i32_6 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c2_i32_153 : BitVec 32 := 2#32
  let v287 : BitVec 1 := Scalar.cmpi .ne v13 c2_i32_153
  let c2_i32_12 : BitVec 32 := 2#32
  let c1_i32_11 : BitVec 32 := 1#32
  let v20 : BitVec 32 := Scalar.subi c1_i32_11 v5
  let v21 : BitVec 32 := Scalar.muli c2_i32_12 v20
  let c1_i32_13 : BitVec 32 := 1#32
  let v22 : BitVec 32 := Scalar.subi c1_i32_13 v8
  let v23 : BitVec 32 := Scalar.addi v21 v22
  let c2_i32_154 : BitVec 32 := 2#32
  let v288 : BitVec 1 := Scalar.cmpi .ne v23 c2_i32_154
  let v289 : BitVec 1 := Scalar.andi v287 v288
  let v290 : BitVec 32 := Scalar.extui v289
  let c0_i32_155 : BitVec 32 := 0#32
  let v291 : BitVec 1 := Scalar.cmpi .ne v290 c0_i32_155
  v291

def k0_off9 (d0 : Dev nD) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2048_i32 : BitVec 32 := 2048#32
  let v24 : BitVec 32 := Scalar.muli v2 c2048_i32
  let c1024_i32 : BitVec 32 := 1024#32
  let v1120 : BitVec 32 := Scalar.addi v24 c1024_i32
  let v1121 : Index := Scalar.indexCast v1120
  let c0_824 : Index := 0#32
  ![v1121.toNat, 0]
def k0_cond4 (d0 : Dev nD) : BitVec 1 :=
  let c2_i32_6 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.muli c2_i32_6 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c3_i32_156 : BitVec 32 := 3#32
  let v292 : BitVec 1 := Scalar.cmpi .ne v13 c3_i32_156
  let c2_i32_12 : BitVec 32 := 2#32
  let c1_i32_11 : BitVec 32 := 1#32
  let v20 : BitVec 32 := Scalar.subi c1_i32_11 v5
  let v21 : BitVec 32 := Scalar.muli c2_i32_12 v20
  let c1_i32_13 : BitVec 32 := 1#32
  let v22 : BitVec 32 := Scalar.subi c1_i32_13 v8
  let v23 : BitVec 32 := Scalar.addi v21 v22
  let c3_i32_157 : BitVec 32 := 3#32
  let v293 : BitVec 1 := Scalar.cmpi .ne v23 c3_i32_157
  let v294 : BitVec 1 := Scalar.andi v292 v293
  let v295 : BitVec 32 := Scalar.extui v294
  let c0_i32_158 : BitVec 32 := 0#32
  let v296 : BitVec 1 := Scalar.cmpi .ne v295 c0_i32_158
  v296

def k0_off10 (d0 : Dev nD) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2048_i32 : BitVec 32 := 2048#32
  let v24 : BitVec 32 := Scalar.muli v2 c2048_i32
  let c1536_i32 : BitVec 32 := 1536#32
  let v1120 : BitVec 32 := Scalar.addi v24 c1536_i32
  let v1121 : Index := Scalar.indexCast v1120
  let c0_824 : Index := 0#32
  ![v1121.toNat, 0]
def k0_off11 (d0 : Dev nD) : Fin 2 → Nat :=
  let c2_i32_12 : BitVec 32 := 2#32
  let c1_i32_11 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v20 : BitVec 32 := Scalar.subi c1_i32_11 v5
  let v21 : BitVec 32 := Scalar.muli c2_i32_12 v20
  let c1_i32_13 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v22 : BitVec 32 := Scalar.subi c1_i32_13 v8
  let v23 : BitVec 32 := Scalar.addi v21 v22
  let c512_i32_159 : BitVec 32 := 512#32
  let v297 : BitVec 32 := Scalar.muli v23 c512_i32_159
  let c192_i32_160 : BitVec 32 := 192#32
  let v298 : BitVec 32 := Scalar.addi v297 c192_i32_160
  let v299 : Index := Scalar.indexCast v298
  let c0_161 : Index := 0#32
  ![v299.toNat, 0]
def k0_off12 (d0 : Dev nD) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2048_i32 : BitVec 32 := 2048#32
  let v24 : BitVec 32 := Scalar.muli v2 c2048_i32
  let c2_i32_12 : BitVec 32 := 2#32
  let c1_i32_11 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v20 : BitVec 32 := Scalar.subi c1_i32_11 v5
  let v21 : BitVec 32 := Scalar.muli c2_i32_12 v20
  let c1_i32_13 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v22 : BitVec 32 := Scalar.subi c1_i32_13 v8
  let v23 : BitVec 32 := Scalar.addi v21 v22
  let c512_i32_162 : BitVec 32 := 512#32
  let v302 : BitVec 32 := Scalar.muli v23 c512_i32_162
  let v303 : BitVec 32 := Scalar.addi v24 v302
  let c192_i32_163 : BitVec 32 := 192#32
  let v304 : BitVec 32 := Scalar.addi v303 c192_i32_163
  let v305 : Index := Scalar.indexCast v304
  let c0_164 : Index := 0#32
  ![v305.toNat, 0]
def k0_off13 (d0 : Dev nD) (c0_i32_166 : BitVec 32) : Fin 2 → Nat :=
  let c1_i32_14 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v25 : BitVec 32 := Scalar.subi c1_i32_14 v2
  let c2048_i32_15 : BitVec 32 := 2048#32
  let v26 : BitVec 32 := Scalar.muli v25 c2048_i32_15
  let c2_i32_6 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.muli c2_i32_6 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c512_i32_165 : BitVec 32 := 512#32
  let v307 : BitVec 32 := Scalar.muli v13 c512_i32_165
  let v308 : BitVec 32 := Scalar.addi v26 v307
  let v309 : BitVec 32 := Scalar.addi v308 c0_i32_166
  let c0_i32_173 : BitVec 32 := 0#32
  ![v309.toNat, 0]
def k0_dev15 (d0 : Dev nD) : Nat :=
  let c0_i32_178 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_177 : BitVec 32 := 4#32
  let v320 : BitVec 32 := Scalar.muli v2 c4_i32_177
  let v321 : BitVec 32 := Scalar.addi c0_i32_178 v320
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_179 : BitVec 32 := 2#32
  let v322 : BitVec 32 := Scalar.muli v10 c2_i32_179
  let v323 : BitVec 32 := Scalar.addi v321 v322
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_180 : BitVec 32 := 1#32
  let v324 : BitVec 32 := Scalar.muli v8 c1_i32_180
  let v325 : BitVec 32 := Scalar.addi v323 v324
  v325.toNat
def k0_dev16 (d0 : Dev nD) : Nat :=
  let c0_i32_186 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_185 : BitVec 32 := 4#32
  let v332 : BitVec 32 := Scalar.muli v2 c4_i32_185
  let v333 : BitVec 32 := Scalar.addi c0_i32_186 v332
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_187 : BitVec 32 := 2#32
  let v334 : BitVec 32 := Scalar.muli v5 c2_i32_187
  let v335 : BitVec 32 := Scalar.addi v333 v334
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_188 : BitVec 32 := 1#32
  let v336 : BitVec 32 := Scalar.muli v11 c1_i32_188
  let v337 : BitVec 32 := Scalar.addi v335 v336
  v337.toNat
def k0_dev17 (d0 : Dev nD) : Nat :=
  let c0_i32_204 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_203 : BitVec 32 := 4#32
  let v357 : BitVec 32 := Scalar.muli v2 c4_i32_203
  let v358 : BitVec 32 := Scalar.addi c0_i32_204 v357
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_205 : BitVec 32 := 2#32
  let v359 : BitVec 32 := Scalar.muli v10 c2_i32_205
  let v360 : BitVec 32 := Scalar.addi v358 v359
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_206 : BitVec 32 := 1#32
  let v361 : BitVec 32 := Scalar.muli v8 c1_i32_206
  let v362 : BitVec 32 := Scalar.addi v360 v361
  v362.toNat
def k0_dev18 (d0 : Dev nD) : Nat :=
  let c0_i32_212 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_211 : BitVec 32 := 4#32
  let v369 : BitVec 32 := Scalar.muli v2 c4_i32_211
  let v370 : BitVec 32 := Scalar.addi c0_i32_212 v369
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_213 : BitVec 32 := 2#32
  let v371 : BitVec 32 := Scalar.muli v5 c2_i32_213
  let v372 : BitVec 32 := Scalar.addi v370 v371
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_214 : BitVec 32 := 1#32
  let v373 : BitVec 32 := Scalar.muli v11 c1_i32_214
  let v374 : BitVec 32 := Scalar.addi v372 v373
  v374.toNat
def k0_dev19 (d0 : Dev nD) : Nat :=
  let c0_i32_230 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_229 : BitVec 32 := 4#32
  let v394 : BitVec 32 := Scalar.muli v2 c4_i32_229
  let v395 : BitVec 32 := Scalar.addi c0_i32_230 v394
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_231 : BitVec 32 := 2#32
  let v396 : BitVec 32 := Scalar.muli v10 c2_i32_231
  let v397 : BitVec 32 := Scalar.addi v395 v396
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_232 : BitVec 32 := 1#32
  let v398 : BitVec 32 := Scalar.muli v8 c1_i32_232
  let v399 : BitVec 32 := Scalar.addi v397 v398
  v399.toNat
def k0_dev20 (d0 : Dev nD) : Nat :=
  let c0_i32_238 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_237 : BitVec 32 := 4#32
  let v406 : BitVec 32 := Scalar.muli v2 c4_i32_237
  let v407 : BitVec 32 := Scalar.addi c0_i32_238 v406
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_239 : BitVec 32 := 2#32
  let v408 : BitVec 32 := Scalar.muli v5 c2_i32_239
  let v409 : BitVec 32 := Scalar.addi v407 v408
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_240 : BitVec 32 := 1#32
  let v410 : BitVec 32 := Scalar.muli v11 c1_i32_240
  let v411 : BitVec 32 := Scalar.addi v409 v410
  v411.toNat
def k0_dev21 (d0 : Dev nD) : Nat :=
  let c0_i32_256 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_255 : BitVec 32 := 4#32
  let v431 : BitVec 32 := Scalar.muli v2 c4_i32_255
  let v432 : BitVec 32 := Scalar.addi c0_i32_256 v431
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_257 : BitVec 32 := 2#32
  let v433 : BitVec 32 := Scalar.muli v10 c2_i32_257
  let v434 : BitVec 32 := Scalar.addi v432 v433
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_258 : BitVec 32 := 1#32
  let v435 : BitVec 32 := Scalar.muli v8 c1_i32_258
  let v436 : BitVec 32 := Scalar.addi v434 v435
  v436.toNat
def k0_dev22 (d0 : Dev nD) : Nat :=
  let c0_i32_264 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_263 : BitVec 32 := 4#32
  let v443 : BitVec 32 := Scalar.muli v2 c4_i32_263
  let v444 : BitVec 32 := Scalar.addi c0_i32_264 v443
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_265 : BitVec 32 := 2#32
  let v445 : BitVec 32 := Scalar.muli v5 c2_i32_265
  let v446 : BitVec 32 := Scalar.addi v444 v445
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_266 : BitVec 32 := 1#32
  let v447 : BitVec 32 := Scalar.muli v11 c1_i32_266
  let v448 : BitVec 32 := Scalar.addi v446 v447
  v448.toNat
def k0_dev23 (d0 : Dev nD) : Nat :=
  let c0_i32_282 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_281 : BitVec 32 := 4#32
  let v468 : BitVec 32 := Scalar.muli v2 c4_i32_281
  let v469 : BitVec 32 := Scalar.addi c0_i32_282 v468
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_283 : BitVec 32 := 2#32
  let v470 : BitVec 32 := Scalar.muli v10 c2_i32_283
  let v471 : BitVec 32 := Scalar.addi v469 v470
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_284 : BitVec 32 := 1#32
  let v472 : BitVec 32 := Scalar.muli v8 c1_i32_284
  let v473 : BitVec 32 := Scalar.addi v471 v472
  v473.toNat
def k0_dev24 (d0 : Dev nD) : Nat :=
  let c0_i32_290 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_289 : BitVec 32 := 4#32
  let v480 : BitVec 32 := Scalar.muli v2 c4_i32_289
  let v481 : BitVec 32 := Scalar.addi c0_i32_290 v480
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_291 : BitVec 32 := 2#32
  let v482 : BitVec 32 := Scalar.muli v5 c2_i32_291
  let v483 : BitVec 32 := Scalar.addi v481 v482
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_292 : BitVec 32 := 1#32
  let v484 : BitVec 32 := Scalar.muli v11 c1_i32_292
  let v485 : BitVec 32 := Scalar.addi v483 v484
  v485.toNat
def k0_dev25 (d0 : Dev nD) : Nat :=
  let c0_i32_308 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_307 : BitVec 32 := 4#32
  let v505 : BitVec 32 := Scalar.muli v2 c4_i32_307
  let v506 : BitVec 32 := Scalar.addi c0_i32_308 v505
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_309 : BitVec 32 := 2#32
  let v507 : BitVec 32 := Scalar.muli v10 c2_i32_309
  let v508 : BitVec 32 := Scalar.addi v506 v507
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_310 : BitVec 32 := 1#32
  let v509 : BitVec 32 := Scalar.muli v8 c1_i32_310
  let v510 : BitVec 32 := Scalar.addi v508 v509
  v510.toNat
def k0_dev26 (d0 : Dev nD) : Nat :=
  let c0_i32_316 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_315 : BitVec 32 := 4#32
  let v517 : BitVec 32 := Scalar.muli v2 c4_i32_315
  let v518 : BitVec 32 := Scalar.addi c0_i32_316 v517
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_317 : BitVec 32 := 2#32
  let v519 : BitVec 32 := Scalar.muli v5 c2_i32_317
  let v520 : BitVec 32 := Scalar.addi v518 v519
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_318 : BitVec 32 := 1#32
  let v521 : BitVec 32 := Scalar.muli v11 c1_i32_318
  let v522 : BitVec 32 := Scalar.addi v520 v521
  v522.toNat
def k0_dev27 (d0 : Dev nD) : Nat :=
  let c0_i32_334 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_333 : BitVec 32 := 4#32
  let v542 : BitVec 32 := Scalar.muli v2 c4_i32_333
  let v543 : BitVec 32 := Scalar.addi c0_i32_334 v542
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_335 : BitVec 32 := 2#32
  let v544 : BitVec 32 := Scalar.muli v10 c2_i32_335
  let v545 : BitVec 32 := Scalar.addi v543 v544
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_336 : BitVec 32 := 1#32
  let v546 : BitVec 32 := Scalar.muli v8 c1_i32_336
  let v547 : BitVec 32 := Scalar.addi v545 v546
  v547.toNat
def k0_dev28 (d0 : Dev nD) : Nat :=
  let c0_i32_342 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_341 : BitVec 32 := 4#32
  let v554 : BitVec 32 := Scalar.muli v2 c4_i32_341
  let v555 : BitVec 32 := Scalar.addi c0_i32_342 v554
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_343 : BitVec 32 := 2#32
  let v556 : BitVec 32 := Scalar.muli v5 c2_i32_343
  let v557 : BitVec 32 := Scalar.addi v555 v556
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_344 : BitVec 32 := 1#32
  let v558 : BitVec 32 := Scalar.muli v11 c1_i32_344
  let v559 : BitVec 32 := Scalar.addi v557 v558
  v559.toNat
def k0_dev29 (d0 : Dev nD) : Nat :=
  let c0_i32_360 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_359 : BitVec 32 := 4#32
  let v579 : BitVec 32 := Scalar.muli v2 c4_i32_359
  let v580 : BitVec 32 := Scalar.addi c0_i32_360 v579
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_361 : BitVec 32 := 2#32
  let v581 : BitVec 32 := Scalar.muli v10 c2_i32_361
  let v582 : BitVec 32 := Scalar.addi v580 v581
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_362 : BitVec 32 := 1#32
  let v583 : BitVec 32 := Scalar.muli v8 c1_i32_362
  let v584 : BitVec 32 := Scalar.addi v582 v583
  v584.toNat
def k0_dev30 (d0 : Dev nD) : Nat :=
  let c0_i32_368 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_367 : BitVec 32 := 4#32
  let v591 : BitVec 32 := Scalar.muli v2 c4_i32_367
  let v592 : BitVec 32 := Scalar.addi c0_i32_368 v591
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_369 : BitVec 32 := 2#32
  let v593 : BitVec 32 := Scalar.muli v5 c2_i32_369
  let v594 : BitVec 32 := Scalar.addi v592 v593
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_370 : BitVec 32 := 1#32
  let v595 : BitVec 32 := Scalar.muli v11 c1_i32_370
  let v596 : BitVec 32 := Scalar.addi v594 v595
  v596.toNat
def k0_off14 (d0 : Dev nD) (c192_i32_374 : BitVec 32) : Fin 2 → Nat :=
  let c1_i32_14 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v25 : BitVec 32 := Scalar.subi c1_i32_14 v2
  let c2048_i32_15 : BitVec 32 := 2048#32
  let v26 : BitVec 32 := Scalar.muli v25 c2048_i32_15
  let c2_i32_7 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.muli c2_i32_7 v5
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_8 v8
  let v16 : BitVec 32 := Scalar.addi v14 v15
  let c512_i32_373 : BitVec 32 := 512#32
  let v603 : BitVec 32 := Scalar.muli v16 c512_i32_373
  let v604 : BitVec 32 := Scalar.addi v26 v603
  let v605 : BitVec 32 := Scalar.addi v604 c192_i32_374
  let c0_i32_381 : BitVec 32 := 0#32
  ![v605.toNat, 0]
def k0_dev31 (d0 : Dev nD) : Nat :=
  let c0_i32_388 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_387 : BitVec 32 := 4#32
  let v619 : BitVec 32 := Scalar.muli v2 c4_i32_387
  let v620 : BitVec 32 := Scalar.addi c0_i32_388 v619
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_389 : BitVec 32 := 2#32
  let v621 : BitVec 32 := Scalar.muli v10 c2_i32_389
  let v622 : BitVec 32 := Scalar.addi v620 v621
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_390 : BitVec 32 := 1#32
  let v623 : BitVec 32 := Scalar.muli v8 c1_i32_390
  let v624 : BitVec 32 := Scalar.addi v622 v623
  v624.toNat
def k0_dev32 (d0 : Dev nD) : Nat :=
  let c0_i32_408 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_407 : BitVec 32 := 4#32
  let v647 : BitVec 32 := Scalar.muli v2 c4_i32_407
  let v648 : BitVec 32 := Scalar.addi c0_i32_408 v647
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_409 : BitVec 32 := 2#32
  let v649 : BitVec 32 := Scalar.muli v10 c2_i32_409
  let v650 : BitVec 32 := Scalar.addi v648 v649
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_410 : BitVec 32 := 1#32
  let v651 : BitVec 32 := Scalar.muli v8 c1_i32_410
  let v652 : BitVec 32 := Scalar.addi v650 v651
  v652.toNat
def k0_off15 (d0 : Dev nD) (c320_i32_414 : BitVec 32) : Fin 2 → Nat :=
  let c1_i32_14 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v25 : BitVec 32 := Scalar.subi c1_i32_14 v2
  let c2048_i32_15 : BitVec 32 := 2048#32
  let v26 : BitVec 32 := Scalar.muli v25 c2048_i32_15
  let c2_i32_10 : BitVec 32 := 2#32
  let c1_i32_9 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.subi c1_i32_9 v5
  let v18 : BitVec 32 := Scalar.muli c2_i32_10 v17
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v19 : BitVec 32 := Scalar.addi v18 v8
  let c512_i32_413 : BitVec 32 := 512#32
  let v659 : BitVec 32 := Scalar.muli v19 c512_i32_413
  let v660 : BitVec 32 := Scalar.addi v26 v659
  let v661 : BitVec 32 := Scalar.addi v660 c320_i32_414
  let c0_i32_421 : BitVec 32 := 0#32
  ![v661.toNat, 0]
def k0_dev33 (d0 : Dev nD) : Nat :=
  let c0_i32_428 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_427 : BitVec 32 := 4#32
  let v675 : BitVec 32 := Scalar.muli v2 c4_i32_427
  let v676 : BitVec 32 := Scalar.addi c0_i32_428 v675
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_429 : BitVec 32 := 2#32
  let v677 : BitVec 32 := Scalar.muli v5 c2_i32_429
  let v678 : BitVec 32 := Scalar.addi v676 v677
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_430 : BitVec 32 := 1#32
  let v679 : BitVec 32 := Scalar.muli v11 c1_i32_430
  let v680 : BitVec 32 := Scalar.addi v678 v679
  v680.toNat
def k0_dev34 (d0 : Dev nD) : Nat :=
  let c0_i32_448 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_447 : BitVec 32 := 4#32
  let v703 : BitVec 32 := Scalar.muli v2 c4_i32_447
  let v704 : BitVec 32 := Scalar.addi c0_i32_448 v703
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_449 : BitVec 32 := 2#32
  let v705 : BitVec 32 := Scalar.muli v5 c2_i32_449
  let v706 : BitVec 32 := Scalar.addi v704 v705
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_450 : BitVec 32 := 1#32
  let v707 : BitVec 32 := Scalar.muli v11 c1_i32_450
  let v708 : BitVec 32 := Scalar.addi v706 v707
  v708.toNat
def k0_dev35 (d0 : Dev nD) : Nat :=
  let c0_i32_468 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_467 : BitVec 32 := 4#32
  let v731 : BitVec 32 := Scalar.muli v2 c4_i32_467
  let v732 : BitVec 32 := Scalar.addi c0_i32_468 v731
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_469 : BitVec 32 := 2#32
  let v733 : BitVec 32 := Scalar.muli v5 c2_i32_469
  let v734 : BitVec 32 := Scalar.addi v732 v733
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_470 : BitVec 32 := 1#32
  let v735 : BitVec 32 := Scalar.muli v11 c1_i32_470
  let v736 : BitVec 32 := Scalar.addi v734 v735
  v736.toNat
def k0_off16 (d0 : Dev nD) (c0_i32_474 : BitVec 32) : Fin 2 → Nat :=
  let c1_i32_14 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v25 : BitVec 32 := Scalar.subi c1_i32_14 v2
  let c2048_i32_15 : BitVec 32 := 2048#32
  let v26 : BitVec 32 := Scalar.muli v25 c2048_i32_15
  let c2_i32_12 : BitVec 32 := 2#32
  let c1_i32_11 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v20 : BitVec 32 := Scalar.subi c1_i32_11 v5
  let v21 : BitVec 32 := Scalar.muli c2_i32_12 v20
  let c1_i32_13 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v22 : BitVec 32 := Scalar.subi c1_i32_13 v8
  let v23 : BitVec 32 := Scalar.addi v21 v22
  let c512_i32_473 : BitVec 32 := 512#32
  let v743 : BitVec 32 := Scalar.muli v23 c512_i32_473
  let v744 : BitVec 32 := Scalar.addi v26 v743
  let v745 : BitVec 32 := Scalar.addi v744 c0_i32_474
  let c0_i32_481 : BitVec 32 := 0#32
  ![v745.toNat, 0]
abbrev stage0_0 : Fin 1 → Memref sig .tc .vmem S2048x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x512 : Shape := ⟨2, ![4096, 512]⟩

abbrev nBuf : Space → Nat
  | .hbm => 1
  | .vmem => 0
  | .smem => 0
  | _ => 0

abbrev bufTy : (tb : Table) → Fin (tcTables nBuf tb) → BufTy
  | .hbm, ⟨0, _⟩ => ⟨S4096x512, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]
-- ==== Proof.Mesh.lean ====
/-
The gather's tables: the mesh of eight devices, the sixty-four chunks of the result, the thirty-two transfers

Device `c = 4 x + 2 y + z`. The result (4096 rows) is cut into 64 chunks of 64 rows: chunk `32 h + 8 q + k` is the
`k`-th of quarter `q` of half `h`. A device's own half is `h = x`; the other half is the far one.

Every device sends 32 transfers of one chunk each, numbered by `Fin 32`: 0-10 along x, 11-20 along y, 21-31 along z.
A transfer reads and writes the same rows, on the sender and on its neighbour. Each device names the 64 chunks by a
number of its own (`chunkAt`): number `t < 32` is the far chunk transfer `t` lands in, the numbers from 32 on are its own half.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.Gather

open Cert.KernelIdeal Cert.KernelIdeal.Gen
open Idealize.ShloMosaic Idealize.ShloMosaic.TcCoe

/-! ## Neighbours -/

/-- The neighbour of `c` along axis `d`: 0 is x, 1 is y, 2 is z. -/
def nb (d : Fin 3) (c : Fin 8) : Fin 8 := match d with
  | 0 => ⟨(c.val + 4) % 8, by omega⟩
  | 1 => ⟨4 * (c.val / 4) + (c.val + 2) % 4, by omega⟩
  | 2 => ⟨2 * (c.val / 2) + (c.val + 1) % 2, by omega⟩

/-- A neighbour's neighbour along the same axis is the device itself. -/
theorem nb_nb (d : Fin 3) (c : Fin 8) : nb d (nb d c) = c := by revert d c; decide
/-- The three neighbours are different devices. -/
theorem nb_inj : ∀ (c : Fin 8) (d d' : Fin 3), nb d c = nb d' c → d = d' := by decide

/-- The axis a transfer runs along. -/
def ax (t : Fin 32) : Fin 3 := if t.val < 11 then 0 else if t.val < 21 then 1 else 2

/-- The device transfer `t` of device `c` writes on, which is also the device whose transfer `t` writes on `c`. -/
def peer (t : Fin 32) (c : Fin 8) : Fin 8 := nb (ax t) c

/-- A transfer between two devices goes both ways. -/
theorem peer_peer (t : Fin 32) (c : Fin 8) : peer t (peer t c) = c := nb_nb _ _

/-! ## Chunks -/

/-- The chunk of the result that device `c` calls number `i`. -/
def chunkAt (c : Fin 8) (i : Fin 64) : Fin 64 :=
  let own := 32 * (c.val / 4)
  let far := 32 - own
  let my := 8 * (c.val % 4)
  let dy := 8 * (2 * ((c.val / 2) % 2) + (c.val + 1) % 2)
  let dz := 8 * ((c.val + 2) % 4)
  let dg := 24 - my
  let n := i.val
  Fin.ofNat 64 <|
    if n < 8 then far + my + n
    else if n < 11 then far + dg + (n - 8)
    else if n < 19 then far + dz + (n - 11)
    else if n < 21 then far + dg + 3 + (n - 19)
    else if n < 29 then far + dy + (n - 21)
    else if n < 32 then far + dg + 5 + (n - 29)
    else if n < 40 then own + my + (n - 32)
    else if n < 48 then own + dg + (n - 40)
    else if n < 56 then own + dy + (n - 48)
    else own + dz + (n - 56)

/-- The number, on the sender, of the chunk transfer `t` reads. -/
def srcNo (t : Fin 32) : Fin 64 :=
  let n := t.val
  Fin.ofNat 64 <|
    if n < 11 then 32 + n
    else if n < 19 then n - 11
    else if n < 21 then n + 5
    else if n < 29 then n - 21
    else n - 13

/-- The number of the chunk transfer `t` lands in, on the receiver. -/
def landNo (t : Fin 32) : Fin 64 := ⟨t.val, by omega⟩

/-- A device calls no chunk by two numbers. -/
theorem chunkAt_injective : ∀ c : Fin 8, Function.Injective (chunkAt c) := by
  have h : ∀ c : Fin 8, ∀ i j : Fin 64, chunkAt c i = chunkAt c j → i = j := by decide +kernel
  exact fun c i j e => h c i j e
/-- A device has a number for every chunk. -/
theorem chunkAt_surjective (c : Fin 8) : Function.Surjective (chunkAt c) := Finite.surjective_of_injective (chunkAt_injective c)

/-- A transfer writes, on the receiver, the rows it reads on the sender. -/
theorem chunk_land : ∀ (c : Fin 8) (t : Fin 32), chunkAt (peer t c) (landNo t) = chunkAt c (srcNo t) := by decide +kernel

/-- The device whose block of `x` device `c` ends with in chunk `r`: itself in its own half; its x neighbour in the
    three chunks of the opposite quarter that come straight from there; else the far device of that quarter. -/
def origin (c : Fin 8) (r : Fin 64) : Fin 8 :=
  if r.val / 32 = c.val / 4 then c
  else if (r.val / 8) % 4 = 3 - c.val % 4 ∧ r.val % 8 < 3 then nb 0 c
  else Fin.ofNat 8 (4 * (1 - c.val / 4) + (r.val / 8) % 4)

/-- Sender and receiver agree on whose block a transferred chunk is of. -/
theorem origin_peer : ∀ (c : Fin 8) (t : Fin 32), origin (peer t c) (chunkAt c (srcNo t)) = origin c (chunkAt c (srcNo t)) := by decide +kernel

/-- Chunk `r` is of the block of a device in its own half. -/
theorem origin_half : ∀ (c : Fin 8) (r : Fin 64), (origin c r).val / 4 = r.val / 32 := by decide +kernel

/-- A chunk of its own half a device has from itself. -/
theorem origin_own (c : Fin 8) (r : Fin 64) (h : r.val / 32 = c.val / 4) : origin c r = c := if_pos h

/-! ## Semaphores -/

/-- The DMA semaphore transfer `t` credits on its sender; -/
def sendNo (t : Fin 32) : Fin 66 := Fin.ofNat 66 (if t.val < 11 then 2 + t.val else if t.val < 21 then 13 + t.val else 23 + t.val)
/-- and on its receiver. -/
def recvNo (t : Fin 32) : Fin 66 := Fin.ofNat 66 (if t.val < 11 then 13 + t.val else if t.val < 21 then 23 + t.val else 34 + t.val)

/-- Which transfer a DMA semaphore belongs to, and whether it is the receiver's; the two below 2 stage the windows. -/
def semOf (s : Fin 66) : Option (Bool × Fin 32) :=
  let n := s.val
  if n < 2 then none
  else if n < 13 then some (false, Fin.ofNat 32 (n - 2))
  else if n < 24 then some (true, Fin.ofNat 32 (n - 13))
  else if n < 34 then some (false, Fin.ofNat 32 (n - 13))
  else if n < 44 then some (true, Fin.ofNat 32 (n - 23))
  else if n < 55 then some (false, Fin.ofNat 32 (n - 23))
  else some (true, Fin.ofNat 32 (n - 34))

/-- A send semaphore names its transfer. -/
theorem semOf_send : ∀ t : Fin 32, semOf (sendNo t) = some (false, t) := by decide
/-- A receive semaphore names its transfer. -/
theorem semOf_recv : ∀ t : Fin 32, semOf (recvNo t) = some (true, t) := by decide

/-! ## Waiting order -/

/-- The rank of a transfer's landing: x first, then the relays of what came along x, then the relays of those. -/
def rank (t : Fin 32) : ℕ := if t.val < 11 then 2 else if t.val < 19 then 3 else if t.val < 21 then 4 else if t.val < 29 then 3 else 4

/-- Every landing is ranked above the barrier. -/
theorem rank_pos (t : Fin 32) : 1 < rank t := by revert t; decide

end Cert.Gather

end
-- ==== Proof.Rows.lean ====
/-
Rows and contents: what lies in a chunk of the result, and what a load, a store and a landing do to it

`full c` is the array device `c` ends with. A store of rows of its own half and the landing of a transfer both leave `full`
on the rows they write: this is all the values there are in this kernel, which computes nothing.
-/
module

public import proofs.«01_k».proof.Proof.Mesh
public import Idealize.ShloMosaic.Lib.Pipeline.Value
public import Idealize.ShloMosaic.Lib.ViewIndex

@[expose] public section

noncomputable section

namespace Cert.Gather

open Cert.KernelIdeal Cert.KernelIdeal.Gen
open Idealize.ShloMosaic Idealize.ShloMosaic.TcCoe

variable {F : FTy → Type} [FloatOps F]

/-! ## The two arrays and their rows -/

/-- The staged block of `x` and the staged result. -/
abbrev xM : Memref sig .tc .vmem S2048x512 .bf16 := Memref.whole cc0_stg0_0
/-- The staging buffer of the result. -/
abbrev oM : Memref sig .tc .vmem S4096x512 .bf16 := Memref.whole cc0_stg1_0

/-- The contents of each. -/
abbrev XBuf (F : FTy → Type) : Type := S2048x512.Idx → Elt F .bf16
/-- Contents of the result. -/
abbrev OBuf (F : FTy → Type) : Type := S4096x512.Idx → Elt F .bf16

/-- The chunk an element of the result is in. -/
def chunkOf (i : S4096x512.Idx) : Fin 64 := ⟨(i 0).val / 64, by have h : (i 0).val < 4096 := (i 0).isLt; omega⟩

/-- The elements of chunk `r`. -/
def cset (r : Fin 64) : Finset S4096x512.Idx := Finset.univ.filter fun i => chunkOf i = r

/-- An element is in the chunk it is in. -/
theorem mem_cset {r : Fin 64} {i : S4096x512.Idx} : i ∈ cset r ↔ chunkOf i = r := by
  unfold cset; rw [Finset.mem_filter]; exact ⟨fun h => h.2, fun h => ⟨Finset.mem_univ _, h⟩⟩

/-- Different chunks have no element in common. -/
theorem cset_disjoint {r r' : Fin 64} (h : r ≠ r') : Disjoint (cset r) (cset r') :=
  Finset.disjoint_left.mpr fun i h1 h2 => h ((mem_cset.mp h1).symm.trans (mem_cset.mp h2))

/-- The elements of the chunks device `c` calls by the numbers in `U`. -/
def region (c : Fin 8) (U : Finset (Fin 64)) : Finset S4096x512.Idx := U.biUnion fun i => cset (chunkAt c i)

/-- An element is in the region of `U` when its chunk's number is in `U`. -/
theorem mem_region {c : Fin 8} {U : Finset (Fin 64)} {i : S4096x512.Idx} : i ∈ region c U ↔ ∃ n ∈ U, chunkAt c n = chunkOf i := by
  unfold region; rw [Finset.mem_biUnion]
  exact ⟨fun ⟨n, hn, h⟩ => ⟨n, hn, (mem_cset.mp h).symm⟩, fun ⟨n, hn, h⟩ => ⟨n, hn, mem_cset.mpr h.symm⟩⟩

/-- Chunks of different numbers have no element in common. -/
theorem chunks_disjoint (c : Fin 8) (U : Finset (Fin 64)) : ∀ n ∈ U, ∀ n' ∈ U, n ≠ n' → Disjoint (cset (chunkAt c n)) (cset (chunkAt c n')) :=
  fun n _ n' _ h => cset_disjoint fun e => h (chunkAt_injective c e)

/-- More chunks, a larger region. -/
theorem region_mono {c : Fin 8} {U V : Finset (Fin 64)} (h : U ⊆ V) : region c U ⊆ region c V := Finset.biUnion_subset_biUnion_of_subset_left _ h

/-- All chunks make up the result. -/
theorem region_univ (c : Fin 8) : region c Finset.univ = Finset.univ := by
  refine Finset.eq_univ_iff_forall.mpr fun i => mem_region.mpr ?_
  obtain ⟨n, h⟩ := chunkAt_surjective c (chunkOf i)
  exact ⟨n, Finset.mem_univ _, h⟩

/-- (However equality of elements is decided.) -/
theorem region_biUnion (inst : DecidableEq S4096x512.Idx) (c : Fin 8) (U : Finset (Fin 64)) :
    @Finset.biUnion _ _ inst U (fun i => cset (chunkAt c i)) = region c U := by
  unfold region; congr; exact Subsingleton.elim _ _

/-- Taking chunks away from a region takes their elements away. -/
theorem region_sdiff (inst : DecidableEq S4096x512.Idx) (c : Fin 8) (U V : Finset (Fin 64)) :
    @SDiff.sdiff _ (@Finset.instSDiff _ inst) (region c U) (region c V) = region c (U \ V) := by
  ext i
  rw [Finset.mem_sdiff, mem_region, mem_region, mem_region]
  constructor
  · rintro ⟨⟨n, hn, e⟩, h⟩
    exact ⟨n, Finset.mem_sdiff.mpr ⟨hn, fun hv => h ⟨n, hv, e⟩⟩, e⟩
  · rintro ⟨n, hn, e⟩
    have h := Finset.mem_sdiff.mp hn
    exact ⟨⟨n, h.1, e⟩, fun ⟨n', hv, e'⟩ => h.2 (by rw [chunkAt_injective c (e.trans e'.symm)]; exact hv)⟩

/-- `T` are the numbers of the `n` chunks from `a` on. -/
def IsRows (c : Fin 8) (a n : ℕ) (T : Finset (Fin 64)) : Prop := ∀ i : Fin 64, i ∈ T ↔ a ≤ (chunkAt c i).val ∧ (chunkAt c i).val < a + n

instance (c : Fin 8) (a n : ℕ) (T : Finset (Fin 64)) : Decidable (IsRows c a n T) := by unfold IsRows; infer_instance

/-- One chunk. -/
theorem isRows_one (c : Fin 8) (i : Fin 64) : IsRows c (chunkAt c i).val 1 {i} := fun j => by
  rw [Finset.mem_singleton]
  exact ⟨fun h => by subst h; omega, fun h => chunkAt_injective c (Fin.ext (by omega))⟩

/-- A rectangle of `64 n` whole rows from row `64 a` on has the elements of those chunks. -/
theorem set_rows {c : Fin 8} {a n : ℕ} {T : Finset (Fin 64)} (hT : IsRows c a n T) {off size : Fin 2 → ℕ} {inb}
    (h0 : off = ![64 * a, 0]) (hs : size = ![64 * n, 512]) :
    (Rect.unit (s := S4096x512) off size inb).set = region c T := by
  subst h0 hs
  ext i
  rw [Rect.mem_set_unit, mem_region]
  have hb : (i 0).val < 4096 := (i 0).isLt
  have hb1 : (i 1).val < 512 := (i 1).isLt
  constructor
  · intro h
    obtain ⟨l, u⟩ : 64 * a ≤ (i 0).val ∧ (i 0).val < 64 * a + 64 * n := h 0
    obtain ⟨m, hm⟩ := chunkAt_surjective c (chunkOf i)
    refine ⟨m, (hT m).mpr ?_, hm⟩
    rw [hm]
    show a ≤ (i 0).val / 64 ∧ (i 0).val / 64 < a + n
    omega
  · rintro ⟨m, hm, e⟩
    have h := (hT m).mp hm
    rw [e] at h
    have h' : a ≤ (i 0).val / 64 ∧ (i 0).val / 64 < a + n := h
    intro k
    fin_cases k
    · show 64 * a ≤ (i 0).val ∧ (i 0).val < 64 * a + 64 * n
      omega
    · show 0 ≤ (i 1).val ∧ (i 1).val < 0 + 512
      omega

/-! ## Contents -/

variable (xs : Fin 8 → XBuf F)

/-- The element of a block that stands at an element of the result's half it fills. -/
def inBlock (i : S4096x512.Idx) : S2048x512.Idx := fun a => match a with
  | ⟨0, _⟩ => ⟨(i 0).val % 2048, Nat.mod_lt _ (by decide)⟩
  | ⟨1, _⟩ => ⟨(i 1).val, (i 1).isLt⟩

/-- What device `c` ends with: in each chunk the rows of its origin's block. -/
def full (c : Fin 8) : OBuf F := fun i => xs (origin c (chunkOf i)) (inBlock i)

/-- Sender and receiver of a transfer end with the same in its chunk. -/
theorem full_peer (c : Fin 8) (t : Fin 32) {i : S4096x512.Idx} (h : i ∈ cset (chunkAt c (srcNo t))) : full xs (peer t c) i = full xs c i := by
  unfold full; rw [mem_cset.mp h, origin_peer]

/-- Rows `64 a'` and on of the device's own block, at rows `64 a` and on of its own half. -/
theorem own_rows (c : Fin 8) {a a' n : ℕ} {off off' size : Fin 2 → ℕ} {inb inb'}
    (h : off = ![64 * a, 0]) (h' : off' = ![64 * a', 0]) (hs : size = ![64 * n, 512]) (ha : a / 32 = c.val / 4) (ha' : a' = a % 32) (hn : a' + n ≤ 32)
    (j : (Rect.unit (s := S4096x512) off size inb).shape.Idx) :
    (xM.view.readAt (Elt F) (Rect.unit (s := S2048x512) off' size inb').toLoadRect (xs c)) j = full xs c ((Rect.unit (s := S4096x512) off size inb).emb j) := by
  subst h h' hs
  have hj : (j 0).val < 64 * n := (j 0).isLt
  have h0 : ((Rect.unit (s := S4096x512) ![64 * a, 0] ![64 * n, 512] inb).emb j 0).val = 64 * a + (j 0).val := by
    rw [Rect.emb_apply]; show 64 * a + 1 * (j 0).val = _; omega
  have h1 : ((Rect.unit (s := S4096x512) ![64 * a, 0] ![64 * n, 512] inb).emb j 1).val = (j 1).val := by
    rw [Rect.emb_apply]; show 0 + 1 * (j 1).val = _; omega
  show xs c ((Rect.unit (s := S2048x512) ![64 * a', 0] ![64 * n, 512] inb').emb j) = _
  unfold full
  rw [origin_own c _ (by show ((Rect.unit (s := S4096x512) ![64 * a, 0] ![64 * n, 512] inb).emb j 0).val / 64 / 32 = _; rw [h0]; omega)]
  refine congrArg (xs c) (funext fun k => ?_)
  fin_cases k
  · refine Fin.ext ?_
    show 64 * a' + 1 * (j 0).val = ((Rect.unit (s := S4096x512) ![64 * a, 0] ![64 * n, 512] inb).emb j 0).val % 2048
    rw [h0]; omega
  · refine Fin.ext ?_
    show 0 + 1 * (j 1).val = ((Rect.unit (s := S4096x512) ![64 * a, 0] ![64 * n, 512] inb).emb j 1).val
    rw [h1]; omega

/-- A store that writes `full`'s values on some whole rows leaves `full` there, whatever stood there. -/
theorem store_rows (c : Fin 8) {r : Rect S4096x512} {w : r.shape.Idx → Elt F .bf16} (hw : ∀ j, w j = full xs c (r.emb j)) (f : OBuf F)
    {i : S4096x512.Idx} (hi : i ∈ r.set) : ((oM.access r : View sig .tc _ _ _).write (Elt F) f w Finset.univ) i = full xs c i := by
  obtain ⟨j, e⟩ := View.exists_of_mem_set_slice (v := View.whole cc0_stg1_0) (r := r) (i := i) (by rw [View.set_slice_whole]; exact hi)
  have e' : r.emb j = i := e
  subst e'
  refine ((View.write_emb_of_mem (v := (oM.access r : View sig .tc _ _ _)) (Val := Elt F) f w (M := Finset.univ) (x := j) (Finset.mem_univ _))).trans ?_
  exact hw j

/-- The slice of one chunk, as the transfers name it. -/
abbrev chunkM (off : Fin 2 → ℕ) (inb : ∀ a, off a + S64x512.size a ≤ S4096x512.size a) : Memref sig .tc .vmem S64x512 .bf16 :=
  oM.slice (Rect.unit (s := S4096x512) off S64x512.size inb) (fun _ => rfl)

/-- Its elements are the chunk's. -/
theorem chunkM_set (r : Fin 64) {off inb} (h : off = ![64 * r.val, 0]) : (chunkM off inb).view.set = cset r := by
  refine (View.set_slice_whole cc0_stg1_0 (Rect.unit (s := S4096x512) off S64x512.size inb)).trans ?_
  obtain ⟨n, e⟩ := chunkAt_surjective 0 r
  rw [set_rows (c := 0) (a := r.val) (n := 1) (T := {n}) (e ▸ isRows_one 0 n) h (by decide)]
  unfold region
  rw [Finset.singleton_biUnion, e]

/-- A landing puts the source's values there. -/
theorem land_chunk (r : Fin 64) {off inb} (h : off = ![64 * r.val, 0]) {off' inb'} (h' : off' = ![64 * r.val, 0]) (fd fs : OBuf F) {i : S4096x512.Idx} (hi : i ∈ cset r) :
    (chunkM off inb).view.write (Elt F) fd ((chunkM off' inb').view.read (Elt F) fs) Finset.univ i = fs i := by
  subst h'
  subst h
  obtain ⟨j, e⟩ := View.exists_of_mem_set_slice (v := View.whole cc0_stg1_0) (r := Rect.unit (s := S4096x512) ![64 * r.val, 0] S64x512.size inb) (i := i)
    (by have := chunkM_set r (inb := inb) rfl; rw [← this] at hi; exact hi)
  have e' : (Rect.unit (s := S4096x512) ![64 * r.val, 0] S64x512.size inb).emb j = i := e
  subst e'
  exact View.write_emb_of_mem (v := (chunkM ![64 * r.val, 0] inb).view) (Val := Elt F) fd _ (M := Finset.univ) (x := j) (Finset.mem_univ _)

end Cert.Gather

end
-- ==== Proof.Schedule.lean ====
/-
The protocol: who waits on which semaphore, who pays it, and what each payment hands over

* **The barrier.** A device is signalled once by each of its three neighbours and waits for 3. The signal from the neighbour
  along axis `d` hands over that neighbour's chunks which this device's transfers along `d` land in.
* **A receive semaphore**, one per transfer: credited by the landing, which hands the receiver its chunk holding `full`.
* **A send semaphore**, one per transfer: credited when the source is read, which hands back half of the source chunk. A chunk is
  read by at most two transfers at once, one along x or y and one along z, each holding a half of its own.

Every cell has one round. A device owes its neighbours' barriers first, then the landings of its transfers; what it waits for is
ranked below what it still owes (`lv`): the barrier, then landings along x, then their relays, then the relays of those.
-/
module

public import proofs.«01_k».proof.Proof.Rows

@[expose] public section

noncomputable section

namespace Cert.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resources: the pipeline's and the protocol's, whose duties are the three axes -/

/-- The ghost state of the cells' rounds. -/
abbrev UB : Type := URounds (GSem nD τ sig) (Fin 3)
/-- With that of the windows'. -/
abbrev UU : Type := UR sig nD τ × UB

local notation "𝕄" => MT nD τ sig Unit (Elt F) ℕ UU ℕ

/-- Where the windows' ghost state is. -/
abbrev EP : Emb (UR sig nD τ) (MT nD τ sig Unit (Elt F) ℕ UU ℕ) := embL
/-- Where the cells' ghost state is. -/
abbrev ER : Emb UB (MT nD τ sig Unit (Elt F) ℕ UU ℕ) := embR

variable (xs : Fin 8 → XBuf F)

/-! ## Cells -/

/-- The barrier semaphore. -/
abbrev barS : Sem sig := (SemArray.scalar (sig.barrier 0 rfl) : Sems sig S_).sem

/-- The barrier of device `c`. -/
abbrev barCell (c : Dev nD) : GSem nD τ sig := ((c : Thread nD τ), .reg barS)
/-- The send semaphore of transfer `t` on device `c`. -/
abbrev sendCell (c : Dev nD) (t : Fin 32) : GSem nD τ sig := ((c : Thread nD τ), .dma (sendNo t))
/-- The receive semaphore of transfer `t` on device `c`. -/
abbrev recvCell (c : Dev nD) (t : Fin 32) : GSem nD τ sig := ((c : Thread nD τ), .dma (recvNo t))

/-- A device's cells: its barrier, and per transfer its receive (`true`) and send (`false`) semaphore. -/
abbrev Cell : Type := Option (Bool × Fin 32)
/-- The semaphore of a cell. -/
abbrev csem : Cell → SemLoc sig := fun
  | none => .reg barS
  | some (true, t) => .dma (recvNo t)
  | some (false, t) => .dma (sendNo t)
/-- A device's cell, as a semaphore of that device. -/
abbrev kcell (ck : Dev nD × Cell) : GSem nD τ sig := ((ck.1 : Thread nD τ), csem ck.2)

/-- The credit of one chunk. -/
abbrev N : ℕ := (chunkM ![0, 0] (by decide)).view.dmaCredit
/-- A landing is worth something. -/
theorem N_pos : 0 < N := View.dmaCredit_pos _ (by decide)

/-! ## Chunks held -/

/-- The staged result on device `c`. -/
abbrev oLoc (c : Dev nD) : Loc nD τ sig := (c : Thread nD τ).loc cc0_stg1_0

/-- Device `c`'s chunk `r`, at a share, holding `f`. -/
def chunkPts (c : Dev nD) (q : PosShare TreeShare) (r : Fin 64) (f : OBuf F) : sProp 𝕄 := (oLoc c) ↦[cset r]{q} f
/-- Device `c`'s block of `x`, staged. -/
def xPts (c : Dev nD) : sProp 𝕄 := ((c : Thread nD τ).loc cc0_stg0_0) ↦{fullShare} xs c

omit [FloatOps F] in
instance chunkPts_storable (c : Dev nD) (q) (r) (f) : BI.Storable (upEmb : UEmb _ 𝕄) (chunkPts (F := F) c q r f) := by unfold chunkPts; infer_instance

/-- The half of a source chunk a transfer holds while it flies: the right one along z, the left one along x and y. -/
def side (t : Fin 32) : PosShare TreeShare := if t.val < 21 then fullShare.left else fullShare.right

omit [FloatOps F] in
/-- A chunk held whole is two halves. -/
theorem chunk_halves (c : Dev nD) (r : Fin 64) (f : OBuf F) :
    (chunkPts (F := F) c fullShare r f) ⊣⊢ iprop(chunkPts c fullShare.left r f ∗ chunkPts c fullShare.right r f) := by
  unfold chunkPts; exact pointsTo_share (PosShare.mem_left_op_right fullShare)

/-! ## What each payment hands over -/

/-- To `c`, with the signal from its neighbour along `d`: the neighbour's chunks that `c`'s transfers along `d` land in. -/
def barPay (c : Dev nD) (d : Fin 3) : sProp 𝕄 :=
  bigSep (Finset.univ.filter fun t => ax t = d) fun t => iprop(∃ f, chunkPts (peer t c) fullShare (chunkAt c (srcNo t)) f)
/-- To `c`, with the landing of transfer `t`: the chunk, as it is to be. -/
def recvPay (c : Dev nD) (t : Fin 32) : sProp 𝕄 := chunkPts c fullShare (chunkAt c (landNo t)) (full xs c)
/-- To `c`, with the source of its transfer `t` read: the half it gave. -/
def sendPay (c : Dev nD) (t : Fin 32) : sProp 𝕄 := chunkPts c (side t) (chunkAt c (srcNo t)) (full xs c)

/-- The schedule: the barrier's three duties of one unit, one duty of a chunk's credit for every transfer's two semaphores. -/
def plan : Rounds.Schedule (GSem nD τ sig) (Fin 3) 𝕄 where
  duties g r := if r = 0 ∧ g.1.2 = .tc then
      match g.2 with
      | .reg _ => Finset.univ
      | .dma s => match semOf s with | none => ∅ | some _ => {0}
    else ∅
  unitless _ := False
  amount g _ _ := match g.2 with | .reg _ => 1 | .dma _ => N
  payload g _ d := match g.2 with
    | .reg _ => barPay g.1.1 d
    | .dma s => match semOf s with
      | none => iprop(emp)
      | some (true, t) => recvPay xs g.1.1 t
      | some (false, t) => sendPay xs g.1.1 t
  amount_pos g _ _ _ := by
    rcases g with ⟨_, s | s⟩
    · exact Nat.one_pos
    · exact N_pos

omit [FloatOps F] in
instance plan_storable (g : GSem nD τ sig) (r : ℕ) (d : Fin 3) : BI.Storable (upEmb : UEmb _ 𝕄) ((plan (F := F) xs).payload g r d) := by
  rcases g with ⟨⟨c, p⟩, s | s⟩
  · show BI.Storable upEmb (barPay c d); unfold barPay; infer_instance
  · show BI.Storable upEmb (match semOf s with
      | none => iprop(emp)
      | some (true, t) => recvPay xs c t
      | some (false, t) => sendPay xs c t)
    unfold recvPay sendPay
    (repeat' split) <;> infer_instance

section Plan
variable (c : Dev nD) (t : Fin 32)

omit [FloatOps F] in
/-- A barrier is paid by three. -/
theorem duties_bar : (plan (F := F) xs).duties (barCell c) 0 = Finset.univ := by dsimp only [plan]; exact if_pos ⟨rfl, rfl⟩
omit [FloatOps F] in
/-- A send semaphore is paid once. -/
theorem duties_send : (plan (F := F) xs).duties (sendCell c t) 0 = {0} := by dsimp only [plan]; rw [if_pos ⟨rfl, rfl⟩, semOf_send]
omit [FloatOps F] in
/-- A receive semaphore is paid once. -/
theorem duties_recv : (plan (F := F) xs).duties (recvCell c t) 0 = {0} := by dsimp only [plan]; rw [if_pos ⟨rfl, rfl⟩, semOf_recv]
omit [FloatOps F] in
/-- There is one round. -/
theorem duties_later (g : GSem nD τ sig) : ∀ r, 1 ≤ r → (plan (F := F) xs).duties g r = ∅ :=
  fun r hr => by dsimp only [plan]; exact if_neg fun h => by omega

omit [FloatOps F] in
/-- What a signal hands over. -/
theorem payload_bar (d : Fin 3) : (plan (F := F) xs).payload (barCell c) 0 d = barPay c d := rfl
omit [FloatOps F] in
/-- What the end of a send hands back. -/
theorem payload_send (d : Fin 3) : (plan (F := F) xs).payload (sendCell c t) 0 d = sendPay xs c t := by dsimp only [plan]; rw [semOf_send]
omit [FloatOps F] in
/-- What a landing hands over. -/
theorem payload_recv (d : Fin 3) : (plan (F := F) xs).payload (recvCell c t) 0 d = recvPay xs c t := by dsimp only [plan]; rw [semOf_recv]

omit [FloatOps F] in
/-- A barrier expects three units. -/
theorem expect_bar : (plan (F := F) xs).expect (barCell c) 0 = 3 := by
  unfold Schedule.expect Schedule.amountOf
  rw [duties_bar]; rfl
omit [FloatOps F] in
/-- A send semaphore expects a whole copy. -/
theorem expect_send : (plan (F := F) xs).expect (sendCell c t) 0 = N := by
  unfold Schedule.expect Schedule.amountOf; rw [duties_send, Finset.sum_singleton]; rfl
omit [FloatOps F] in
/-- A receive semaphore expects a whole copy. -/
theorem expect_recv : (plan (F := F) xs).expect (recvCell c t) 0 = N := by
  unfold Schedule.expect Schedule.amountOf; rw [duties_recv, Finset.sum_singleton]; rfl

omit [FloatOps F] in
/-- All that a barrier hands over. -/
theorem rest_bar : bigSep ((plan (F := F) xs).duties (barCell c) 0 \ ∅) (fun d => (plan (F := F) xs).payload (barCell c) 0 d)
    = bigSep Finset.univ fun t => iprop(∃ f, chunkPts (F := F) (peer t c) fullShare (chunkAt c (srcNo t)) f) := by
  rw [Finset.sdiff_empty, duties_bar]
  have hU : (Finset.univ : Finset (Fin 32)) = Finset.univ.biUnion fun d => Finset.univ.filter fun t => ax t = d := by decide +kernel
  rw [hU, BI.bigSep_biUnion_eq]
  · rfl
  · intro d _ d' _ h
    exact Finset.disjoint_left.mpr fun t h1 h2 => h ((Finset.mem_filter.mp h1).2.symm.trans (Finset.mem_filter.mp h2).2)
omit [FloatOps F] in
/-- All that a send semaphore hands over. -/
theorem rest_send : bigSep ((plan (F := F) xs).duties (sendCell c t) 0 \ ∅) (fun d => (plan (F := F) xs).payload (sendCell c t) 0 d) = sendPay xs c t := by
  rw [Finset.sdiff_empty, duties_send, bigSep_singleton, payload_send]
omit [FloatOps F] in
/-- All that a receive semaphore hands over. -/
theorem rest_recv : bigSep ((plan (F := F) xs).duties (recvCell c t) 0 \ ∅) (fun d => (plan (F := F) xs).payload (recvCell c t) 0 d) = recvPay xs c t := by
  rw [Finset.sdiff_empty, duties_recv, bigSep_singleton, payload_recv]

end Plan

/-! ## What a device owes, and the order of waiting -/

/-- The landings a device owes while the transfers in `S` are unsent. -/
def due (c : Dev nD) (S : Finset (Fin 32)) : CellTallies nD τ sig Unit := ∑ t ∈ S, tallyAt (recvCell (peer t c) t) () N

/-- What is owed for transfers is owed for one and for the others. -/
theorem due_erase (c : Dev nD) {S : Finset (Fin 32)} {t : Fin 32} (h : t ∈ S) : due c S = due c (S.erase t) + tallyAt (recvCell (peer t c) t) () N :=
  (Finset.sum_erase_add S _ h).symm

/-- Without transfers to issue nothing is owed. -/
theorem due_empty (c : Dev nD) : due c ∅ = 0 := Finset.sum_empty

/-- At launch: all of them, and a unit to each neighbour's barrier, the first signal's last. -/
def O₂ (c : Dev nD) : CellTallies nD τ sig Unit := due c Finset.univ + tallyAt (barCell (nb 2 c)) () 1
/-- Before the second signal. -/
def O₁ (c : Dev nD) : CellTallies nD τ sig Unit := O₂ c + tallyAt (barCell (nb 1 c)) () 1
/-- Before the first: at launch. -/
def O₀ (c : Dev nD) : CellTallies nD τ sig Unit := O₁ c + tallyAt (barCell (nb 0 c)) () 1

/-- The levels stand on the semaphores of the cores that run the kernel. -/
def L (g : GSem nD τ sig) : Finset Unit := if g.1.2 = .tc then {()} else ∅
/-- The rank of a cell: a barrier's is 1, a receive semaphore's its transfer's, all others' 0. -/
def lv (g : GSem nD τ sig) (_ : Unit) : ℕ := match g.2 with
  | .reg _ => 1
  | .dma s => match semOf s with | some (true, t) => rank t | _ => 0

/-- None elsewhere. -/
theorem L_of_ne (g : GSem nD τ sig) (h : g.1.2 ≠ .tc) : L g = ∅ := if_neg h
/-- One each there. -/
theorem L_tc (c : Dev nD) (sm : SemLoc sig) : L ((c : Thread nD τ), sm) = {()} := if_pos rfl
/-- A receive semaphore's rank is its transfer's. -/
theorem lv_recv (c : Dev nD) (t : Fin 32) : lv (recvCell c t) () = rank t := by dsimp only [lv]; rw [semOf_recv]
/-- A send semaphore's rank is lowest. -/
theorem lv_send (c : Dev nD) (t : Fin 32) : lv (sendCell c t) () = 0 := by dsimp only [lv]; rw [semOf_send]

/-- What is owed for transfers is owed to their receive semaphores. -/
theorem due_pos {c : Dev nD} {S : Finset (Fin 32)} {g : GSem nD τ sig} {u : Unit} (h : 0 < due c S g u) : ∃ t ∈ S, g = recvCell (peer t c) t := by
  induction S using Finset.induction_on with
  | empty => rw [due_empty] at h; exact absurd h (Nat.lt_irrefl 0)
  | insert t S ht ih =>
    unfold due at h
    rw [Finset.sum_insert ht, Pi.add_apply, Finsupp.add_apply] at h
    by_cases e : g = recvCell (peer t c) t ∧ u = ()
    · exact ⟨t, Finset.mem_insert_self _ _, e.1⟩
    · rw [tallyAt_apply, if_neg e, Nat.zero_add] at h
      obtain ⟨t', h', e'⟩ := ih h
      exact ⟨t', Finset.mem_insert_of_mem h', e'⟩

/-- What is owed at launch is owed to receive semaphores and to the barriers of neighbours. -/
theorem O₀_pos {c : Dev nD} {g : GSem nD τ sig} {u : Unit} (h : 0 < O₀ c g u) :
    (∃ t, g = recvCell (peer t c) t) ∨ ∃ d, g = barCell (nb d c) := by
  by_contra hn
  obtain ⟨hr, hb⟩ := not_or.mp hn
  unfold O₀ O₁ O₂ at h
  rw [Pi.add_apply, Finsupp.add_apply, Pi.add_apply, Finsupp.add_apply, Pi.add_apply, Finsupp.add_apply, tallyAt_apply, tallyAt_apply, tallyAt_apply,
    if_neg (fun h' => hb ⟨2, h'.1⟩), if_neg (fun h' => hb ⟨1, h'.1⟩), if_neg (fun h' => hb ⟨0, h'.1⟩)] at h
  simp only [Nat.add_zero] at h
  obtain ⟨t, _, e⟩ := due_pos (c := c) (S := Finset.univ) (g := g) (u := u) h
  exact hr ⟨t, e⟩

omit [FloatOps F] in
/-- A device may wait on a cell of its own ranked below the landings it owes. -/
theorem mayWait_due (c : Dev nD) (sm : SemLoc sig) (S : Finset (Fin 32)) (h : ∀ t ∈ S, lv ((c : Thread nD τ), sm) () < rank t) :
    (levAts L lv : sProp 𝕄) ⊢ MayWait (c : Thread nD τ) sm () (due c S) :=
  MayOwe.of_cut (L := L) (lev := lv) (lv ((c : Thread nD τ), sm) ()) (fun p hp => by rw [Finset.mem_singleton.mp hp, L_tc]; exact Finset.mem_singleton_self _)
    (fun g u hg => by obtain ⟨t, _, rfl⟩ := due_pos hg; exact Finset.mem_singleton_self _)
    (fun p hp => by rw [Finset.mem_singleton.mp hp])
    (fun g u hg => by obtain ⟨t, ht, rfl⟩ := due_pos hg; rw [lv_recv]; exact h t ht)

omit [FloatOps F] in
/-- The staging semaphores are ranked below everything owed. -/
theorem mayWait_stage (c : Dev nD) (q : DmaSem sig) (hq : semOf q = none) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨t, rfl⟩ | ⟨d, rfl⟩ <;> exact Finset.mem_singleton_self _)
      (fun p hp => by rw [Finset.mem_singleton.mp hp]; dsimp only [lv]; rw [hq])
      (fun g u hg => by
        rcases O₀_pos hg with ⟨t, rfl⟩ | ⟨d, rfl⟩
        · rw [lv_recv]; exact Nat.lt_of_succ_lt (rank_pos t)
        · exact Nat.one_pos)
  · rw [MayWait_zero]; iintro -; iempintro

end Cert.Gather

end
-- ==== Proof.Steps.lean ====
/-
One rule for each kind of operation of the kernel

`Pst K c s` is what device `c` holds at a point of its program, `s` saying in finite sets how far it has come. Each rule says: what
is held before an operation suffices for the rest of the program if what is held after it does.
-/
module

public import proofs.«01_k».proof.Proof.Schedule

@[expose] public section

noncomputable section

namespace Cert.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (xs : Fin 8 → XBuf F)

/-! ## How far a device has come -/

/-- `U`: the chunks of its own half not stored yet. `H`: the halves of finished chunks it holds (`true` is the right one).
    Transfers: `S` unsent, `C` in flight or not waited for at the source, `D` done with there; `V` not received, `E` received. -/
structure PS where
  U : Finset (Fin 64)
  H : Finset (Bool × Fin 64)
  S : Finset (Fin 32)
  C : Finset (Fin 32)
  D : Finset (Fin 32)
  V : Finset (Fin 32)
  E : Finset (Fin 32)

/-- Whether a transfer reads the right half of its source. -/
def zs (t : Fin 32) : Bool := decide (21 ≤ t.val)
/-- The half of the share that a side names. -/
def halfOf (b : Bool) : PosShare TreeShare := if b then fullShare.right else fullShare.left
/-- The share a transfer lends of its source is that of its side. -/
theorem side_eq (t : Fin 32) : side t = halfOf (zs t) := by
  unfold side halfOf zs
  by_cases h : t.val < 21
  · rw [if_pos h, if_neg (by rw [decide_eq_true_iff]; omega)]
  · rw [if_neg h, if_pos (by rw [decide_eq_true_iff]; omega)]

/-- Transfer `t` issued. -/
def PS.sent (s : PS) (t : Fin 32) : PS := { s with H := s.H.erase (zs t, srcNo t), S := s.S.erase t, C := insert t s.C }
/-- Transfer `t`'s source waited for. -/
def PS.back (s : PS) (t : Fin 32) : PS := { s with H := insert (zs t, srcNo t) s.H, C := s.C.erase t, D := insert t s.D }
/-- The landing of transfer `t` waited for. -/
def PS.got (s : PS) (t : Fin 32) : PS := { s with H := insert (false, landNo t) (insert (true, landNo t) s.H), V := s.V.erase t, E := insert t s.E }
/-- The chunks `T` of the own half stored. -/
def PS.stored (s : PS) (T : Finset (Fin 64)) : PS := { s with U := s.U \ T, H := s.H ∪ (Finset.univ ×ˢ T) }

/-! ## What a device holds -/

/-- The invariants of all cells, under the names the launch gave them, and that all cells are at their round. -/
def records (K : Dev nD × Cell → ℕ) : sProp 𝕄 :=
  iprop((bigSep Finset.univ fun ck : Dev nD × Cell => cellInv ER (plan xs) (K ck) (kcell ck))
    ∗ bigSep Finset.univ fun ck : Dev nD × Cell => reached ER (kcell ck) 0)

instance records_persistent (K : Dev nD × Cell → ℕ) : BI.Persistent (records xs K) := by unfold records; infer_instance

omit [FloatOps F] in
/-- The invariant of one cell. -/
theorem inv_of (K : Dev nD × Cell → ℕ) (ck : Dev nD × Cell) : records xs K ⊢ cellInv ER (plan xs) (K ck) (kcell ck) :=
  sep_elim_left.trans (bigSep_elim (Finset.mem_univ ck))
omit [FloatOps F] in
/-- Each cell is at its round. -/
theorem reached_of (K : Dev nD × Cell → ℕ) (ck : Dev nD × Cell) : records xs K ⊢ reached ER (kcell ck) 0 :=
  sep_elim_right.trans (bigSep_elim (Finset.mem_univ ck))

/-- A half of a finished chunk. -/
def fin (c : Dev nD) (bi : Bool × Fin 64) : sProp 𝕄 := chunkPts c (halfOf bi.1) (chunkAt c bi.2) (full xs c)
/-- For an unsent transfer: the chunk it lands in, the right to send, its two payments. -/
def ready (c : Dev nD) (t : Fin 32) : sProp 𝕄 :=
  iprop((∃ f, chunkPts (peer t c) fullShare (chunkAt c (srcNo t)) f) ∗ atPos ER (sendCell c t) 0 ∅ 0
    ∗ dutyTok ER (sendCell c t) 0 0 ∗ dutyTok ER (recvCell (peer t c) t) 0 0)
/-- For a transfer in flight: the wait for its source. -/
def flying (c : Dev nD) (t : Fin 32) : sProp 𝕄 := iprop(atPos ER (sendCell c t) 0 ∅ 0 ∗ cred (tallyAt (sendCell c t) () N))
/-- For a transfer to come: the wait for its landing. -/
def coming (c : Dev nD) (t : Fin 32) : sProp 𝕄 := iprop(atPos ER (recvCell c t) 0 ∅ 0 ∗ cred (tallyAt (recvCell c t) () N))

/-- What device `c` holds in state `s`. -/
def held (c : Dev nD) (s : PS) : sProp 𝕄 :=
  iprop((∃ f, (oLoc c) ↦[region c s.U]{fullShare} f) ∗ bigSep s.H (fin xs c)
    ∗ bigSep s.S (ready (F := F) c) ∗ bigSep s.C (flying (F := F) c) ∗ bigSep s.D (fun t => semVal (sendCell c t) 0)
    ∗ bigSep s.V (coming (F := F) c) ∗ bigSep s.E (fun t => semVal (recvCell c t) 0)
    ∗ (∃ W, owes (c : Thread nD τ) (due c s.S) W) ∗ xPts xs c)

/-- Device `c` in state `s`, with the invariants and the ranks. -/
def Pst (K : Dev nD × Cell → ℕ) (c : Dev nD) (s : PS) : sProp 𝕄 := iprop(records xs K ∗ levAts L lv ∗ held xs c s)

omit [FloatOps F] in
/-- Rows held are their chunks held. -/
theorem rows_chunks (c : Dev nD) (T : Finset (Fin 64)) (f : OBuf F) :
    ((oLoc c) ↦[region c T]{fullShare} f : sProp 𝕄) = bigSep T fun i => chunkPts c fullShare (chunkAt c i) f := by
  have h := pointsTo_biUnion (ℓ := oLoc c) (q := fullShare) (f := f) (Name := ℕ) (U := UU) (Ix := Unit) (Lvl := ℕ) (Val := Elt F) T
    (fun i => cset (chunkAt c i)) (chunks_disjoint c T)
  exact (congrArg (fun S => ((oLoc c) ↦[S]{fullShare} f : sProp 𝕄)) (region_biUnion _ c T).symm).trans h

omit [FloatOps F] in
/-- Some of the rows held taken out. -/
theorem rows_split (c : Dev nD) {T U : Finset (Fin 64)} (h : T ⊆ U) (f : OBuf F) :
    ((oLoc c) ↦[region c U]{fullShare} f : sProp 𝕄) ⊣⊢ iprop(((oLoc c) ↦[region c T]{fullShare} f) ∗ ((oLoc c) ↦[region c (U \ T)]{fullShare} f)) := by
  have h' := pointsTo_split_subset (ℓ := oLoc c) (q := fullShare) (f := f) (Name := ℕ) (U := UU) (Ix := Unit) (Lvl := ℕ) (Val := Elt F) (region_mono (c := c) h)
  have e : ∀ S S' : Finset S4096x512.Idx, S = S' →
      (((oLoc c) ↦[region c U]{fullShare} f : sProp 𝕄) ⊣⊢ iprop(((oLoc c) ↦[region c T]{fullShare} f) ∗ ((oLoc c) ↦[S]{fullShare} f))) →
      (((oLoc c) ↦[region c U]{fullShare} f : sProp 𝕄) ⊣⊢ iprop(((oLoc c) ↦[region c T]{fullShare} f) ∗ ((oLoc c) ↦[S']{fullShare} f))) := fun _ _ h => h ▸ id
  exact e _ _ (region_sdiff _ c U T) h'

omit [FloatOps F] in
/-- Both halves of the numbers in `T`, number by number. -/
theorem both_halves (T : Finset (Fin 64)) (Φ : Bool × Fin 64 → sProp 𝕄) :
    (bigSep (Finset.univ ×ˢ T) Φ) = bigSep T fun i => iprop(Φ (false, i) ∗ Φ (true, i)) := by
  have hB : (Finset.univ ×ˢ T : Finset (Bool × Fin 64)) = T.biUnion fun i => {(false, i), (true, i)} := by
    ext ⟨b, i⟩
    rw [Finset.mem_product, Finset.mem_biUnion]
    constructor
    · rintro ⟨-, h⟩; exact ⟨i, h, by cases b <;> simp⟩
    · rintro ⟨j, h, e⟩
      rw [Finset.mem_insert, Finset.mem_singleton] at e
      rcases e with e | e <;> · cases e; exact ⟨Finset.mem_univ _, h⟩
  have hD : ∀ i ∈ T, ∀ j ∈ T, i ≠ j → Disjoint ({(false, i), (true, i)} : Finset (Bool × Fin 64)) {(false, j), (true, j)} := fun i _ j _ hne => by
    refine Finset.disjoint_left.mpr fun x h1 h2 => hne ?_
    have g : ∀ k, x ∈ ({(false, k), (true, k)} : Finset (Bool × Fin 64)) → x.2 = k := fun k h => by
      rw [Finset.mem_insert, Finset.mem_singleton] at h
      rcases h with h | h <;> rw [h]
    exact (g i h1).symm.trans (g j h2)
  rw [hB, BI.bigSep_biUnion_eq T _ _ hD]
  refine bigSep_congr fun i _ => ?_
  rw [bigSep_insert (by rw [Finset.mem_singleton]; exact fun e => by cases e), bigSep_singleton]
  rfl

/-- Whole rows holding `full` are their chunks' halves. -/
theorem rows_fin (c : Dev nD) (T : Finset (Fin 64)) :
    ((oLoc c) ↦[region c T]{fullShare} full xs c : sProp 𝕄) = bigSep (Finset.univ ×ˢ T) (fin xs c) := by
  rw [both_halves, rows_chunks]
  exact bigSep_congr fun i _ => BI.Entails.antisymm (chunk_halves c _ _).1 (chunk_halves c _ _).2

/-- Rows just stored with `full`'s values are their chunks' halves. -/
theorem rows_stored (c : Dev nD) {T : Finset (Fin 64)} {r : Rect S4096x512} (hr : r.set = region c T) {w : r.shape.Idx → Elt F .bf16}
    (hw : ∀ j, w j = full xs c (r.emb j)) (f : OBuf F) :
    ((oLoc c) ↦[region c T]{fullShare} ((oM.access r : View sig .tc _ _ _).write (Elt F) f w Finset.univ) : sProp 𝕄) = bigSep (Finset.univ ×ˢ T) (fin xs c) := by
  rw [← rows_fin]
  have h : ∀ i ∈ region c T, ((oM.access r : View sig .tc _ _ _).write (Elt F) f w Finset.univ) i = full xs c i :=
    fun i hi => store_rows xs c hw f (by rw [hr]; exact hi)
  exact pointsTo_congr (ℓ := oLoc c) (I := region c T) (q := fullShare) h

/-- No loop needs a bound. -/
abbrev 𝒱₀ : Variants := Variants.none

/-- The rest `p` of device `c`'s program runs to `Q`. -/
abbrev Run {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

section Rules

omit [FloatOps F] in
/-- Take one out of many. -/
theorem take_one {I : Type} [DecidableEq I] {A : Finset I} {i : I} (h : i ∈ A) (Φ : I → sProp 𝕄) : bigSep A Φ ⊢ iprop(Φ i ∗ bigSep (A.erase i) Φ) :=
  Entails.of_eq (bigSep_erase h)
omit [FloatOps F] in
/-- Put one to many. -/
theorem put_one {I : Type} [DecidableEq I] {A : Finset I} {i : I} (h : i ∉ A) (Φ : I → sProp 𝕄) : iprop(Φ i ∗ bigSep A Φ) ⊢ bigSep (insert i A) Φ :=
  Entails.of_eq (bigSep_insert h).symm
omit [FloatOps F] in
/-- Put many to many. -/
theorem put_all {I : Type} [DecidableEq I] {A B : Finset I} (h : Disjoint A B) (Φ : I → sProp 𝕄) : iprop(bigSep A Φ ∗ bigSep B Φ) ⊢ bigSep (A ∪ B) Φ :=
  Entails.of_eq (bigSep_union h).symm

variable {K : Dev nD × Cell → ℕ} {c : Dev nD} {s : PS}

/-- A load from the block of `x` gives its rows. -/
theorem step_loadx {α : Type} {Q : α → sProp 𝕄} {r : LoadRect S2048x512} {hl : xM.view.LoadsAt r} {k : (r.shape.Idx → Elt F .bf16) → Prog (TpuEff nD τ sig (Elt F) Λ₀ .tc) α}
    (h : Pst xs K c s ⊢ Run c (k (xM.view.readAt (Elt F) r (xs c))) Q) : Pst xs K c s ⊢ Run c (.op (.load xM r hl) k) Q := by
  unfold Pst held xPts at h ⊢
  iintro ⟨#HR, #HL, HU, HH, HS, HC, HD, HV, HE, HO, Hx⟩
  iapply (wp_load 𝒱₀ (c : Thread nD τ) none Set.univ (m := xM) (Finset.subset_univ _)) $$ Hx; iintro Hx
  iapply h
  isplitr; · iexact HR
  isplitr; · iexact HL
  isplitl [HU]; · iexact HU
  isplitl [HH]; · iexact HH
  isplitl [HS]; · iexact HS
  isplitl [HC]; · iexact HC
  isplitl [HD]; · iexact HD
  isplitl [HV]; · iexact HV
  isplitl [HE]; · iexact HE
  isplitl [HO]; · iexact HO
  iexact Hx

/-- A load from chunks not stored yet gives something, which the kernel drops. -/
theorem step_loado {α : Type} {Q : α → sProp 𝕄} {off size : Fin 2 → ℕ} {inb} {hl} {k : ((Rect.unit (s := S4096x512) off size inb).toLoadRect.shape.Idx → Elt F .bf16) → Prog (TpuEff nD τ sig (Elt F) Λ₀ .tc) α}
    (a n : ℕ) (T : Finset (Fin 64)) (hT : IsRows c a n T) (h0 : off = ![64 * a, 0]) (hs : size = ![64 * n, 512]) (hU : T ⊆ s.U)
    (h : ∀ v, Pst xs K c s ⊢ Run c (k v) Q) : Pst xs K c s ⊢ Run c (.op (.load oM (Rect.unit (s := S4096x512) off size inb).toLoadRect hl) k) Q := by
  unfold Pst held at h ⊢
  iintro ⟨#HR, #HL, ⟨%f, HU⟩, HH, HS, HC, HD, HV, HE, HO, Hx⟩
  iapply (wp_load_rect 𝒱₀ (c : Thread nD τ) none Set.univ (m := oM) (r := Rect.unit (s := S4096x512) off size inb) (S := region c s.U)
    (by rw [View.set_slice_whole, set_rows hT h0 hs]; exact region_mono hU)) $$ HU; iintro HU
  iapply (h _)
  isplitr; · iexact HR
  isplitr; · iexact HL
  isplitl [HU]; · iexists f; iexact HU
  isplitl [HH]; · iexact HH
  isplitl [HS]; · iexact HS
  isplitl [HC]; · iexact HC
  isplitl [HD]; · iexact HD
  isplitl [HV]; · iexact HV
  isplitl [HE]; · iexact HE
  isplitl [HO]; · iexact HO
  iexact Hx

/-- A store of `full`'s rows into chunks not stored yet finishes them. -/
theorem step_store {α : Type} {Q : α → sProp 𝕄} {off size : Fin 2 → ℕ} {inb} {w : (Rect.unit (s := S4096x512) off size inb).shape.Idx → Elt F .bf16} {hx hm}
    {k : PUnit → Prog (TpuEff nD τ sig (Elt F) Λ₀ .tc) α}
    (a n : ℕ) (T : Finset (Fin 64)) (hT : IsRows c a n T) (h0 : off = ![64 * a, 0]) (hs : size = ![64 * n, 512]) (hU : T ⊆ s.U)
    (hH : Disjoint s.H (Finset.univ ×ˢ T)) (hw : ∀ j, w j = full xs c ((Rect.unit (s := S4096x512) off size inb).emb j))
    (h : Pst xs K c (s.stored T) ⊢ Run c (k ⟨⟩) Q) :
    Pst xs K c s ⊢ Run c (.op (.store oM (Rect.unit (s := S4096x512) off size inb) w Finset.univ hx hm) k) Q := by
  unfold Pst held at h ⊢
  iintro ⟨#HR, #HL, ⟨%f, HU⟩, HH, HS, HC, HD, HV, HE, HO, Hx⟩
  iapply (wp_store 𝒱₀ (c : Thread nD τ) none Set.univ (m := oM) (r := Rect.unit (s := S4096x512) off size inb) (Mk := Finset.univ) (S := region c s.U)
    (by rw [View.setOn_univ, View.set_slice_whole, set_rows hT h0 hs]; exact region_mono hU)) $$ HU; iintro HU
  ihave HU := (rows_split c hU _).1 $$ HU
  icases HU with ⟨HT, HU⟩
  ihave HT := (Entails.of_eq (rows_stored xs c (set_rows hT h0 hs) hw f)) $$ HT
  iapply h
  unfold PS.stored
  isplitr; · iexact HR
  isplitr; · iexact HL
  isplitl [HU]; · iexists _; iexact HU
  isplitl [HH HT]
  · iapply (put_all hH _); isplitl [HH] <;> iassumption
  isplitl [HS]; · iexact HS
  isplitl [HC]; · iexact HC
  isplitl [HD]; · iexact HD
  isplitl [HV]; · iexact HV
  isplitl [HE]; · iexact HE
  isplitl [HO]; · iexact HO
  iexact Hx

/-- A transfer: its source's half and the neighbour's chunk go with it. -/
theorem step_send {α : Type} {Q : α → sProp 𝕄} (t : Fin 32) {n : Dev nD} (hn : n = peer t c) {off₁ off₂ : Fin 2 → ℕ} {inb₁ inb₂}
    (h₁ : off₁ = ![64 * (chunkAt c (srcNo t)).val, 0]) (h₂ : off₂ = ![64 * (chunkAt c (srcNo t)).val, 0])
    {sS sR : DmaSem sig} (hS : sS = sendNo t) (hR : sR = recvNo t)
    {hsc : (chunkM off₂ inb₂ : Memref sig (Dev.tc n : Thread nD τ).2.kind .vmem S64x512 .bf16).view.ref.isScScratch = false} {hsrc hdst}
    {hsem : DmaTarget.Typed .vmem (.dma sR) (.remote (Dev.tc n : Thread nD τ) (chunkM off₂ inb₂) (.dma sS) hsc)}
    {k : PUnit → Prog (TpuEff nD τ sig (Elt F) Λ₀ .tc) α}
    (ht : t ∈ s.S) (hc : t ∉ s.C) (hh : (zs t, srcNo t) ∈ s.H)
    (h : Pst xs K c (s.sent t) ⊢ Run c (k ⟨⟩) Q) :
    Pst xs K c s ⊢ Run c (.op (.enqueueDma (chunkM off₁ inb₁) (.remote (Dev.tc n : Thread nD τ) (chunkM off₂ inb₂) (.dma sS) hsc) (.dma sR) hsrc hdst hsem) k) Q := by
  subst hn hS hR
  unfold Pst held at h ⊢
  iintro ⟨#HR, #HL, HU, HH, HS, HC, HD, HV, HE, ⟨%W, HO⟩, Hx⟩
  ihave HH := (take_one hh _) $$ HH
  icases HH with ⟨Hsrc, HH⟩
  ihave HS := (take_one ht _) $$ HS
  unfold ready
  icases HS with ⟨⟨⟨%fd, Hdst⟩, Hat, HtS, HtR⟩, HS⟩
  iapply (Rounds.wp_send_pointsTo 𝒱₀ ER (plan xs) (c : Thread nD τ) none (κ₁ := K (c, some (false, t))) (κ₂ := K (peer t c, some (true, t)))
    (src := chunkM off₁ inb₁) (c' := (peer t c : Thread nD τ)) (dst := chunkM off₂ inb₂) (sS := .dma (sendNo t)) (sem := .dma (recvNo t)) (q := side t) (fs := full xs c)
    (r₁ := 0) (r₂ := 0) (d₁ := 0) (d₂ := 0) (fd := fd)
    (by rw [duties_send]; exact Finset.mem_singleton_self _) (by rw [duties_recv]; exact Finset.mem_singleton_self _)
    () () N rfl rfl rfl (due c (s.S.erase t)) (due_erase c ht) (W := W)
    (by rw [payload_send, chunkM_set _ h₁]; exact BI.Entails.refl _)
    (by
      rw [payload_recv, chunkM_set _ h₂]; unfold recvPay chunkPts
      rw [chunk_land]
      refine Entails.of_eq (pointsTo_congr fun i hi => ?_)
      rw [land_chunk _ h₂ h₁ _ _ hi, full_peer xs c t hi])) $$ [Hsrc Hdst HO HtS HtR]
  · isplitr; · iapply (inv_of xs K (c, some (false, t))); iexact HR
    isplitr; · iapply (inv_of xs K (peer t c, some (true, t))); iexact HR
    isplitl [Hsrc]; · rw [chunkM_set _ h₁, side_eq]; unfold fin chunkPts; iexact Hsrc
    isplitl [Hdst]; · rw [chunkM_set _ h₂]; unfold chunkPts; iexact Hdst
    isplitl [HO]; · iexact HO
    isplitl [HtS]; · iexact HtS
    isplitr; · iapply (reached_of xs K (c, some (false, t))); iexact HR
    isplitl [HtR]; · iexact HtR
    iapply (reached_of xs K (peer t c, some (true, t))); iexact HR
  iintro ⟨Hcr, HO⟩
  iapply h
  unfold PS.sent
  isplitr; · iexact HR
  isplitr; · iexact HL
  isplitl [HU]; · iexact HU
  isplitl [HH]; · iexact HH
  isplitl [HS]; · iexact HS
  isplitl [HC Hat Hcr]
  · iapply (put_one hc _); unfold flying
    isplitl [Hat Hcr]
    · isplitl [Hat] <;> iassumption
    iexact HC
  isplitl [HD]; · iexact HD
  isplitl [HV]; · iexact HV
  isplitl [HE]; · iexact HE
  isplitl [HO]; · iexists W; iexact HO
  iexact Hx

/-- The wait for a transfer's source: its half is back, its semaphore at zero for good. -/
theorem step_back {α : Type} {Q : α → sProp 𝕄} (t : Fin 32) {sS : DmaSem sig} (hS : sS = sendNo t) {off₁ off₂ : Fin 2 → ℕ} {inb₁ inb₂ hsrc hdst}
    {k : PUnit → Prog (TpuEff nD τ sig (Elt F) Λ₀ .tc) α}
    (ht : t ∈ s.C) (hd : t ∉ s.D) (hh : (zs t, srcNo t) ∉ s.H) (hr : ∀ u ∈ s.S, 0 < rank u)
    (h : Pst xs K c (s.back t) ⊢ Run c (k ⟨⟩) Q) :
    Pst xs K c s ⊢ Run c (.op (.waitDma2 sS (chunkM off₁ inb₁) (chunkM off₂ inb₂) hsrc hdst) k) Q := by
  subst hS
  unfold Pst held at h ⊢
  iintro ⟨#HR, #HL, HU, HH, HS, HC, HD, HV, HE, ⟨%W, HO⟩, Hx⟩
  ihave HC := (take_one ht _) $$ HC
  unfold flying
  icases HC with ⟨⟨Hat, Hcr⟩, HC⟩
  iapply (Rounds.wp_wait_rest_token 𝒱₀ ER (plan xs) (c : Thread nD τ) none (κ := K (c, some (false, t)))
      (wpE_waitDma2_eq 𝒱₀ (c : Thread nD τ) none Set.univ) (Set.mem_univ _) () (O := due c s.S) (W := W) (R := 0) (m := 0) (T := ∅)
      (by rw [Nat.zero_add, expect_send])) $$ [Hcr HO Hat]
  · isplitr; · iapply (inv_of xs K (c, some (false, t))); iexact HR
    isplitl [Hcr]; · iexact Hcr
    isplitl [HO]; · iexact HO
    isplitr; · iapply (mayWait_due c (.dma (sendNo t)) s.S (fun u hu => by rw [lv_send]; exact hr u hu)); iexact HL
    iexact Hat
  iintro ⟨HO, Hat, -, Hpay⟩
  ihave Hpay := (Entails.of_eq (rest_send xs c t)) $$ Hpay
  imod (Rounds.cell_close ER (plan xs) (Set.mem_univ (K (c, some (false, t)))) (fun h => h) (R := 0 + 1) (duties_later xs (sendCell c t))) $$ [Hat] with Hz
  · isplitr; · iapply (inv_of xs K (c, some (false, t))); iexact HR
    iexact Hat
  iapply h
  unfold PS.back
  isplitr; · iexact HR
  isplitr; · iexact HL
  isplitl [HU]; · iexact HU
  isplitl [HH Hpay]
  · iapply (put_one hh _)
    isplitl [Hpay]; · unfold sendPay fin; rw [side_eq]; iexact Hpay
    iexact HH
  isplitl [HS]; · iexact HS
  isplitl [HC]; · iexact HC
  isplitl [HD Hz]
  · iapply (put_one hd _); isplitl [Hz] <;> iassumption
  isplitl [HV]; · iexact HV
  isplitl [HE]; · iexact HE
  isplitl [HO]; · iexists _; iexact HO
  iexact Hx

/-- The wait for a landing: the chunk is there, finished, and its semaphore at zero for good. -/
theorem step_got {α : Type} {Q : α → sProp 𝕄} (t : Fin 32) {sR : DmaSem sig} (hR : sR = recvNo t) {off₁ off₂ : Fin 2 → ℕ} {inb₁ inb₂ hsrc hdst}
    {k : PUnit → Prog (TpuEff nD τ sig (Elt F) Λ₀ .tc) α}
    (ht : t ∈ s.V) (he : t ∉ s.E) (hh : (false, landNo t) ∉ s.H) (hh' : (true, landNo t) ∉ s.H) (hr : ∀ u ∈ s.S, rank t < rank u)
    (h : Pst xs K c (s.got t) ⊢ Run c (k ⟨⟩) Q) :
    Pst xs K c s ⊢ Run c (.op (.waitDma2 sR (chunkM off₁ inb₁) (chunkM off₂ inb₂) hsrc hdst) k) Q := by
  subst hR
  unfold Pst held at h ⊢
  iintro ⟨#HR, #HL, HU, HH, HS, HC, HD, HV, HE, ⟨%W, HO⟩, Hx⟩
  ihave HV := (take_one ht _) $$ HV
  unfold coming
  icases HV with ⟨⟨Hat, Hcr⟩, HV⟩
  iapply (Rounds.wp_wait_rest_token 𝒱₀ ER (plan xs) (c : Thread nD τ) none (κ := K (c, some (true, t)))
      (wpE_waitDma2_eq 𝒱₀ (c : Thread nD τ) none Set.univ) (Set.mem_univ _) () (O := due c s.S) (W := W) (R := 0) (m := 0) (T := ∅)
      (by rw [Nat.zero_add, expect_recv])) $$ [Hcr HO Hat]
  · isplitr; · iapply (inv_of xs K (c, some (true, t))); iexact HR
    isplitl [Hcr]; · iexact Hcr
    isplitl [HO]; · iexact HO
    isplitr; · iapply (mayWait_due c (.dma (recvNo t)) s.S (fun u hu => by rw [lv_recv]; exact hr u hu)); iexact HL
    iexact Hat
  iintro ⟨HO, Hat, -, Hpay⟩
  ihave Hpay := (Entails.of_eq (rest_recv xs c t)) $$ Hpay
  unfold recvPay
  ihave Hpay := (chunk_halves c _ _).1 $$ Hpay
  icases Hpay with ⟨Hl, Hr⟩
  imod (Rounds.cell_close ER (plan xs) (Set.mem_univ (K (c, some (true, t)))) (fun h => h) (R := 0 + 1) (duties_later xs (recvCell c t))) $$ [Hat] with Hz
  · isplitr; · iapply (inv_of xs K (c, some (true, t))); iexact HR
    iexact Hat
  iapply h
  unfold PS.got
  isplitr; · iexact HR
  isplitr; · iexact HL
  isplitl [HU]; · iexact HU
  isplitl [HH Hl Hr]
  · iapply (put_one (show ((false, landNo t) : Bool × Fin 64) ∉ insert (true, landNo t) s.H from
      fun e => (Finset.mem_insert.mp e).elim (fun e => absurd (congrArg Prod.fst e) Bool.false_ne_true) hh) _)
    isplitl [Hl]; · unfold fin; iexact Hl
    iapply (put_one hh' _)
    isplitl [Hr]; · unfold fin; iexact Hr
    iexact HH
  isplitl [HS]; · iexact HS
  isplitl [HC]; · iexact HC
  isplitl [HD]; · iexact HD
  isplitl [HV]; · iexact HV
  isplitl [HE Hz]
  · iapply (put_one he _); isplitl [Hz] <;> iassumption
  isplitl [HO]; · iexists _; iexact HO
  iexact Hx

end Rules

end Cert.Gather

end
-- ==== Proof.Script.lean ====
/-
The script: the operations of the kernel's body, in order, and that they may be played

After the barrier every device plays the same list of stores, transfers and waits, but that the two whole quarters it stores
at once are other quarters on other devices. Each operation asks something of what the device holds by then.
-/
module

public import proofs.«01_k».proof.Proof.Steps

@[expose] public section

noncomputable section

namespace Cert.Gather

open Cert.KernelIdeal Cert.KernelIdeal.Gen
open Idealize.ShloMosaic Idealize.ShloMosaic.TcCoe

/-- An operation: store some chunks of the own half, issue a transfer, wait for its landing here, wait for its source. -/
inductive Op where
  | fill (T : Finset (Fin 64))
  | send (t : Fin 32)
  | got (t : Fin 32)
  | back (t : Fin 32)

/-- The state after an operation. -/
def PS.act (s : PS) : Op → PS
  | .fill T => s.stored T
  | .send t => s.sent t
  | .got t => s.got t
  | .back t => s.back t

/-- What an operation asks of the state. -/
def PS.allows (s : PS) : Op → Prop
  | .fill T => T ⊆ s.U ∧ Disjoint s.H (Finset.univ ×ˢ T)
  | .send t => t ∈ s.S ∧ t ∉ s.C ∧ (zs t, srcNo t) ∈ s.H
  | .got t => t ∈ s.V ∧ t ∉ s.E ∧ (false, landNo t) ∉ s.H ∧ (true, landNo t) ∉ s.H ∧ ∀ u ∈ s.S, rank t < rank u
  | .back t => t ∈ s.C ∧ t ∉ s.D ∧ (zs t, srcNo t) ∉ s.H ∧ ∀ u ∈ s.S, 0 < rank u

instance decidableAllows (s : PS) : (o : Op) → Decidable (s.allows o)
  | .fill T => inferInstanceAs (Decidable (T ⊆ s.U ∧ Disjoint s.H (Finset.univ ×ˢ T)))
  | .send t => inferInstanceAs (Decidable (t ∈ s.S ∧ t ∉ s.C ∧ (zs t, srcNo t) ∈ s.H))
  | .got t => inferInstanceAs (Decidable (t ∈ s.V ∧ t ∉ s.E ∧ (false, landNo t) ∉ s.H ∧ (true, landNo t) ∉ s.H ∧ ∀ u ∈ s.S, rank t < rank u))
  | .back t => inferInstanceAs (Decidable (t ∈ s.C ∧ t ∉ s.D ∧ (zs t, srcNo t) ∉ s.H ∧ ∀ u ∈ s.S, 0 < rank u))

/-- The state after the barrier: the own half free, nothing else done. -/
def PS.first : PS := ⟨Finset.univ.filter (fun i => 32 ≤ i.val), ∅, Finset.univ, ∅, ∅, Finset.univ, ∅⟩
/-- The last state: both halves of every chunk finished and held, every transfer done with at both ends. -/
def PS.last : PS := ⟨∅, Finset.univ, ∅, ∅, Finset.univ, ∅, Finset.univ⟩

/-- The operations may be played from a state, and lead to the last. -/
def PS.plays (s : PS) : List Op → Prop
  | [] => s = PS.last
  | o :: os => s.allows o ∧ (s.act o).plays os

/-- Two states are equal when their seven parts are. -/
theorem PS.eq_iff (s s' : PS) :
    s = s' ↔ s.U = s'.U ∧ s.H = s'.H ∧ s.S = s'.S ∧ s.C = s'.C ∧ s.D = s'.D ∧ s.V = s'.V ∧ s.E = s'.E := by
  cases s; cases s'; exact ⟨fun h => by cases h; simp, fun ⟨a, b, c, d, e, f, g⟩ => by cases a; cases b; cases c; cases d; cases e; cases f; cases g; rfl⟩

instance decidablePlays : (os : List Op) → (s : PS) → Decidable (s.plays os)
  | [], s => decidable_of_iff _ (PS.eq_iff s PS.last).symm
  | o :: os, s => have := decidablePlays os (s.act o); inferInstanceAs (Decidable (s.allows o ∧ (s.act o).plays os))

/-- The chunks of quarter `q`, where it is one of the two stored whole; else none. -/
def blk (c : Fin 8) (q : ℕ) : Finset (Fin 64) := Finset.univ.filter fun i => 48 ≤ i.val ∧ (chunkAt c i).val % 32 / 8 = q

/-- The last five chunks of the opposite quarter. -/
def tailChunks : Finset (Fin 64) := Finset.univ.filter fun i => 43 ≤ i.val ∧ i.val < 48

open Op in
/-- The whole list. -/
def script (c : Fin 8) : List Op :=
  [fill {32}, send 0, fill {33}, send 1, fill {34}, send 2, fill {35}, send 3, fill {36}, send 4, fill {37}, send 5,
   fill {38}, send 6, fill {39}, send 7, fill {40}, send 8, fill {41}, send 9, fill {42}, send 10,
   fill (blk c 0), fill (blk c 1), fill (blk c 2), fill (blk c 3), fill tailChunks,
   got 0, send 11, send 21, got 1, send 12, send 22, got 2, send 13, send 23, got 3, send 14, send 24, got 4, send 15, send 25,
   got 5, send 16, send 26, got 6, send 17, send 27, got 7, send 18, send 28,
   got 24, send 19, got 25, send 20, got 16, send 29, got 17, send 30, got 18, send 31,
   got 8, got 9, got 10, got 11, got 12, got 13, got 14, got 15, got 21, got 22, got 23, got 26, got 27, got 28,
   got 19, got 20, got 29, got 30, got 31,
   back 0, back 1, back 2, back 3, back 4, back 5, back 6, back 7, back 8, back 9, back 10, back 11, back 12, back 13, back 14, back 15,
   back 16, back 17, back 18, back 19, back 20, back 21, back 22, back 23, back 24, back 25, back 26, back 27, back 28, back 29,
   back 30, back 31]

/-- It may be played from the state after the barrier. -/
theorem script_plays : ∀ c : Fin 8, PS.first.plays (script c) := by decide +kernel

end Cert.Gather

end
-- ==== Proof.Play.lean ====
/-
Playing the script: the rules over what is left of it

`Rem K c os` is what device `c` holds when the operations `os` of its script are left. Each rule takes the first of them off.
The tables at the end say which device and which chunk the printed offsets name.
-/
module

public import proofs.«01_k».proof.Proof.Script

@[expose] public section

noncomputable section

namespace Cert.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (xs : Fin 8 → XBuf F)

/-- What device `c` holds with the operations `os` left. -/
def Rem (K : Dev nD × Cell → ℕ) (c : Dev nD) (os : List Op) : sProp 𝕄 := iprop(∃ s : PS, ⌜s.plays os⌝ ∗ Pst xs K c s)

variable {xs} {K : Dev nD × Cell → ℕ} {c : Dev nD} {os : List Op}

/-- To use a state with operations left, use any state that allows them. -/
theorem Rem_elim {G : sProp 𝕄} (h : ∀ s : PS, s.plays os → Pst xs K c s ⊢ G) : Rem xs K c os ⊢ G := by
  unfold Rem
  iintro ⟨%s, %hs, H⟩
  iapply (h s hs); iexact H

/-- A state that allows the operations left is a state with these left. -/
theorem Rem_intro {s : PS} (h : s.plays os) : Pst xs K c s ⊢ Rem xs K c os := by
  unfold Rem
  iintro H
  iexists s
  isplitr; · ipureintro; exact h
  iexact H

/-! ## The rules -/

section Rules

/-- A program that has ended plays nothing. -/
theorem play_ret {α : Type} {Q : α → sProp 𝕄} {a : α} (h : Rem xs K c os ⊢ Q a) : Rem xs K c os ⊢ Run c (.ret a) Q := by
  refine h.trans ?_
  unfold Run
  rw [wp_ret]
  iintro H; imodintro; iexact H

/-- A load from the block of `x`. -/
theorem play_loadx {α : Type} {Q : α → sProp 𝕄} {r : LoadRect S2048x512} {hl : xM.view.LoadsAt r} {k : (r.shape.Idx → Elt F .bf16) → Prog (TpuEff nD τ sig (Elt F) Λ₀ .tc) α}
    (h : Rem xs K c os ⊢ Run c (k (xM.view.readAt (Elt F) r (xs c))) Q) : Rem xs K c os ⊢ Run c (.op (.load xM r hl) k) Q :=
  Rem_elim fun _ hs => step_loadx xs ((Rem_intro hs).trans h)

/-- A load from the chunks the next operation stores, which the kernel drops. -/
theorem play_loado {α : Type} {Q : α → sProp 𝕄} {off size : Fin 2 → ℕ} {inb} {hl} {k : ((Rect.unit (s := S4096x512) off size inb).toLoadRect.shape.Idx → Elt F .bf16) → Prog (TpuEff nD τ sig (Elt F) Λ₀ .tc) α}
    {a n : ℕ} {T : Finset (Fin 64)} (hT : IsRows c a n T) (h0 : off = ![64 * a, 0]) (hs : size = ![64 * n, 512])
    (h : ∀ v, Rem xs K c (.fill T :: os) ⊢ Run c (k v) Q) : Rem xs K c (.fill T :: os) ⊢ Run c (.op (.load oM (Rect.unit (s := S4096x512) off size inb).toLoadRect hl) k) Q :=
  Rem_elim fun _ hp => step_loado xs a n T hT h0 hs hp.1.1 fun v => (Rem_intro hp).trans (h v)

/-- A store of `full`'s rows. -/
theorem play_store {α : Type} {Q : α → sProp 𝕄} {off size : Fin 2 → ℕ} {inb} {w : (Rect.unit (s := S4096x512) off size inb).shape.Idx → Elt F .bf16} {hx hm}
    {k : PUnit → Prog (TpuEff nD τ sig (Elt F) Λ₀ .tc) α}
    {a n : ℕ} {T : Finset (Fin 64)} (hT : IsRows c a n T) (h0 : off = ![64 * a, 0]) (hs : size = ![64 * n, 512])
    (hw : ∀ j, w j = full xs c ((Rect.unit (s := S4096x512) off size inb).emb j))
    (h : Rem xs K c os ⊢ Run c (k ⟨⟩) Q) :
    Rem xs K c (.fill T :: os) ⊢ Run c (.op (.store oM (Rect.unit (s := S4096x512) off size inb) w Finset.univ hx hm) k) Q :=
  Rem_elim fun _ hp => step_store xs a n T hT h0 hs hp.1.1 hp.1.2 hw ((Rem_intro hp.2).trans h)

/-- Rows of the own block copied to the own half: a load, a load that is dropped, a store. -/
theorem play_copy {α : Type} {Q : α → sProp 𝕄} {off off' size : Fin 2 → ℕ} {inb inb' hl hl'}
    (pay : ((Rect.unit (s := S2048x512) off' size inb').toLoadRect.shape.Idx → Elt F .bf16) → (Rect.unit (s := S4096x512) off size inb).shape.Idx → Elt F .bf16)
    (hp : ∀ v, pay v = v)
    {a n : ℕ} {T : Finset (Fin 64)} (hT : IsRows c a n T) (h0 : off = ![64 * a, 0]) (h1 : off' = ![64 * (a % 32), 0]) (hs : size = ![64 * n, 512])
    (ha : a / 32 = c.val / 4) (hn : a % 32 + n ≤ 32)
    {hx : ∀ v : (Rect.unit (s := S2048x512) off' size inb').toLoadRect.shape.Idx → Elt F .bf16, _} {hm}
    {k : PUnit → Prog (TpuEff nD τ sig (Elt F) Λ₀ .tc) α}
    (h : Rem xs K c os ⊢ Run c (k ⟨⟩) Q) :
    Rem xs K c (.fill T :: os) ⊢ Run c (.op (.load xM (Rect.unit (s := S2048x512) off' size inb').toLoadRect hl) fun v =>
      .op (.load oM (Rect.unit (s := S4096x512) off size inb).toLoadRect hl') fun _ =>
      .op (.store oM (Rect.unit (s := S4096x512) off size inb) (pay v) Finset.univ (hx v) hm) k) Q :=
  play_loadx (play_loado hT h0 hs fun _ => play_store hT h0 hs (fun j => by rw [hp]; exact own_rows xs c h0 h1 hs ha rfl hn j) h)

/-- A transfer issued. -/
theorem play_send {α : Type} {Q : α → sProp 𝕄} (t : Fin 32) {n : Dev nD} (hn : n = peer t c) {off : Fin 2 → ℕ} {inb₁ inb₂}
    (h0 : off = ![64 * (chunkAt c (srcNo t)).val, 0]) {sS sR : DmaSem sig} (hS : sS = sendNo t) (hR : sR = recvNo t)
    {hsc : (chunkM off inb₂ : Memref sig (Dev.tc n : Thread nD τ).2.kind .vmem S64x512 .bf16).view.ref.isScScratch = false} {hsrc hdst}
    {hsem : DmaTarget.Typed .vmem (.dma sR) (.remote (Dev.tc n : Thread nD τ) (chunkM off inb₂) (.dma sS) hsc)}
    {k : PUnit → Prog (TpuEff nD τ sig (Elt F) Λ₀ .tc) α} (h : Rem xs K c os ⊢ Run c (k ⟨⟩) Q) :
    Rem xs K c (.send t :: os) ⊢ Run c (.op (.enqueueDma (chunkM off inb₁) (.remote (Dev.tc n : Thread nD τ) (chunkM off inb₂) (.dma sS) hsc) (.dma sR) hsrc hdst hsem) k) Q :=
  Rem_elim fun _ hp => step_send xs t hn h0 h0 hS hR hp.1.1 hp.1.2.1 hp.1.2.2 ((Rem_intro hp.2).trans h)

/-- A landing waited for. -/
theorem play_got {α : Type} {Q : α → sProp 𝕄} (t : Fin 32) {sR : DmaSem sig} (hR : sR = recvNo t) {off₁ off₂ : Fin 2 → ℕ} {inb₁ inb₂ hsrc hdst}
    {k : PUnit → Prog (TpuEff nD τ sig (Elt F) Λ₀ .tc) α} (h : Rem xs K c os ⊢ Run c (k ⟨⟩) Q) :
    Rem xs K c (.got t :: os) ⊢ Run c (.op (.waitDma2 sR (chunkM off₁ inb₁) (chunkM off₂ inb₂) hsrc hdst) k) Q :=
  Rem_elim fun _ hp => step_got xs t hR hp.1.1 hp.1.2.1 hp.1.2.2.1 hp.1.2.2.2.1 hp.1.2.2.2.2 ((Rem_intro hp.2).trans h)

/-- A source waited for. -/
theorem play_back {α : Type} {Q : α → sProp 𝕄} (t : Fin 32) {sS : DmaSem sig} (hS : sS = sendNo t) {off₁ off₂ : Fin 2 → ℕ} {inb₁ inb₂ hsrc hdst}
    {k : PUnit → Prog (TpuEff nD τ sig (Elt F) Λ₀ .tc) α} (h : Rem xs K c os ⊢ Run c (k ⟨⟩) Q) :
    Rem xs K c (.back t :: os) ⊢ Run c (.op (.waitDma2 sS (chunkM off₁ inb₁) (chunkM off₂ inb₂) hsrc hdst) k) Q :=
  Rem_elim fun _ hp => step_back xs t hS hp.1.1 hp.1.2.1 hp.1.2.2.1 hp.1.2.2.2 ((Rem_intro hp.2).trans h)

end Rules

/-! ## What the printed offsets and devices name -/

section Tables

/-- The kernel's neighbour along x is the transfer's receiver. -/
theorem dev_x (c : Dev nD) {t : Fin 32} (ht : ax t = 0) {m : ℕ} {hm : m < 8} (h : m = (2 * ((c.val / 2) % 2) + (c.val % 2) + 4) - 4 * (c.val / 4)) :
    (⟨m, hm⟩ : Dev nD) = peer t c := by
  subst h; unfold peer; rw [ht]; exact Fin.ext ((by decide : ∀ c : Fin 8, (2 * ((c.val / 2) % 2) + (c.val % 2) + 4) - 4 * (c.val / 4) = (nb 0 c).val) c)
/-- The kernel's neighbour along y is the transfer's receiver. -/
theorem dev_y (c : Dev nD) {t : Fin 32} (ht : ax t = 1) {m : ℕ} {hm : m < 8} (h : m = (4 * (c.val / 4) + (c.val % 2) + 2) - 2 * ((c.val / 2) % 2)) :
    (⟨m, hm⟩ : Dev nD) = peer t c := by
  subst h; unfold peer; rw [ht]; exact Fin.ext ((by decide : ∀ c : Fin 8, (4 * (c.val / 4) + (c.val % 2) + 2) - 2 * ((c.val / 2) % 2) = (nb 1 c).val) c)
/-- The kernel's neighbour along z is the transfer's receiver. -/
theorem dev_z (c : Dev nD) {t : Fin 32} (ht : ax t = 2) {m : ℕ} {hm : m < 8} (h : m = (4 * (c.val / 4) + 2 * ((c.val / 2) % 2) + 1) - (c.val % 2)) :
    (⟨m, hm⟩ : Dev nD) = peer t c := by
  subst h; unfold peer; rw [ht]; exact Fin.ext ((by decide : ∀ c : Fin 8, (4 * (c.val / 4) + 2 * ((c.val / 2) % 2) + 1) - (c.val % 2) = (nb 2 c).val) c)

/-- Where in the block of `x` the chunks of the device's own quarter are loaded. -/
theorem off1_at : ∀ (c : Dev nD) (r : Fin 8), k0_off1 c (BitVec.ofNat 32 (64 * r.val)) = ![64 * ((chunkAt c (Fin.ofNat 64 (32 + r.val))).val % 32), 0] := by decide +kernel
/-- Where in the result the chunks of the device's own quarter are stored. -/
theorem off2_at : ∀ (c : Dev nD) (r : Fin 8), k0_off2 c (BitVec.ofNat 32 (64 * r.val)) = ![64 * (chunkAt c (Fin.ofNat 64 (32 + r.val))).val, 0] := by decide +kernel
/-- Where in the result the chunks of the device's own quarter are sent from. -/
theorem off3_at : ∀ (c : Dev nD) (r : Fin 8), k0_off3 c (BitVec.ofNat 32 (64 * r.val)) = ![64 * (chunkAt c (Fin.ofNat 64 (32 + r.val))).val, 0] := by decide +kernel
/-- Where in the block of `x` the three chunks of the opposite quarter are loaded. -/
theorem off4_at : ∀ (c : Dev nD) (r : Fin 3), k0_off4 c (BitVec.ofNat 32 (64 * r.val)) = ![64 * ((chunkAt c (Fin.ofNat 64 (40 + r.val))).val % 32), 0] := by decide +kernel
/-- Where in the result the three chunks of the opposite quarter are stored. -/
theorem off5_at : ∀ (c : Dev nD) (r : Fin 3), k0_off5 c (BitVec.ofNat 32 (64 * r.val)) = ![64 * (chunkAt c (Fin.ofNat 64 (40 + r.val))).val, 0] := by decide +kernel
/-- Where in the result the three chunks of the opposite quarter are sent from. -/
theorem off6_at : ∀ (c : Dev nD) (r : Fin 3), k0_off6 c (BitVec.ofNat 32 (64 * r.val)) = ![64 * (chunkAt c (Fin.ofNat 64 (40 + r.val))).val, 0] := by decide +kernel
/-- Where the chunks that come along x, of the device's own quarter, land and are passed on. -/
theorem off13_at : ∀ (c : Dev nD) (r : Fin 8), k0_off13 c (BitVec.ofNat 32 (64 * r.val)) = ![64 * (chunkAt c (Fin.ofNat 64 r.val)).val, 0] := by decide +kernel
/-- Where the chunks that come along z land and are passed on. -/
theorem off14_at : ∀ (c : Dev nD) (r : Fin 8), k0_off14 c (BitVec.ofNat 32 (64 * r.val)) = ![64 * (chunkAt c (Fin.ofNat 64 (21 + r.val))).val, 0] := by decide +kernel
/-- Where the chunks that come along y land and are passed on. -/
theorem off15_at : ∀ (c : Dev nD) (r : Fin 8), k0_off15 c (BitVec.ofNat 32 (64 * r.val)) = ![64 * (chunkAt c (Fin.ofNat 64 (11 + r.val))).val, 0] := by decide +kernel
/-- Where in the block of `x` the rest of the opposite quarter is loaded. -/
theorem off11_at : ∀ c : Dev nD, k0_off11 c = ![64 * ((chunkAt c 43).val % 32), 0] := by decide +kernel
/-- Where in the result the rest of the opposite quarter is stored. -/
theorem off12_at : ∀ c : Dev nD, k0_off12 c = ![64 * (chunkAt c 43).val, 0] := by decide +kernel

/-- A chunk of the own half is a chunk of it. -/
theorem own_half : ∀ (c : Fin 8) (i : Fin 64), 32 ≤ i.val → (chunkAt c i).val / 32 = c.val / 4 := by decide +kernel

end Tables

/-- One chunk of the own half copied. -/
theorem play_one {α : Type} {Q : α → sProp 𝕄} {i : Fin 64} (hi : 32 ≤ i.val) {off off' : Fin 2 → ℕ} {inb inb' hl hl'}
    (pay : ((Rect.unit (s := S2048x512) off' S64x512.size inb').toLoadRect.shape.Idx → Elt F .bf16) → (Rect.unit (s := S4096x512) off S64x512.size inb).shape.Idx → Elt F .bf16)
    (hp : ∀ v, pay v = v) (h0 : off = ![64 * (chunkAt c i).val, 0]) (h1 : off' = ![64 * ((chunkAt c i).val % 32), 0])
    {hx : ∀ v : (Rect.unit (s := S2048x512) off' S64x512.size inb').toLoadRect.shape.Idx → Elt F .bf16, _} {hm}
    {k : PUnit → Prog (TpuEff nD τ sig (Elt F) Λ₀ .tc) α}
    (h : Rem xs K c os ⊢ Run c (k ⟨⟩) Q) :
    Rem xs K c (.fill {i} :: os) ⊢ Run c (.op (.load xM (Rect.unit (s := S2048x512) off' S64x512.size inb').toLoadRect hl) fun v =>
      .op (.load oM (Rect.unit (s := S4096x512) off S64x512.size inb).toLoadRect hl') fun _ =>
      .op (.store oM (Rect.unit (s := S4096x512) off S64x512.size inb) (pay v) Finset.univ (hx v) hm) k) Q :=
  play_copy pay hp (isRows_one c i) h0 h1 (by decide) (own_half c i hi) (by omega) h

end Cert.Gather

end
-- ==== Proof.Parts.lean ====
/-
The parts that store the own half and send along x

The kernel is printed in parts. Each theorem takes its part's operations off the script: what is left before the part suffices
for what is left after it, whatever words the part passes on.
-/
module

public import proofs.«01_k».proof.Proof.Play

@[expose] public section

noncomputable section

namespace Cert.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Op

variable {F : FTy → Type} [FloatOps F]

local notation "𝕄" => MT nD τ sig Unit (Elt F) ℕ UU ℕ

variable {xs : Fin 8 → XBuf F} {K : Dev nD × Cell → ℕ} {c : Dev nD} {os : List Op}

/-- A printed part over the kernel's own windows and semaphores, on device `c`. -/
abbrev over {β : Type 1} (part : (arg0 : Memref sig .tc .vmem S2048x512 .bf16) → arg0.IsWhole → (arg1 : Memref sig .tc .vmem S4096x512 .bf16) → arg1.IsWhole →
    DmaSems sig S11 → DmaSems sig S11 → DmaSems sig S10 → DmaSems sig S10 → DmaSems sig S11 → DmaSems sig S11 → Dev nD → β) (c : Dev nD) : β :=
  part xM (hstage0_0 0) oM (hstage0_1 0) cc0_scratch0 cc0_scratch1 cc0_scratch2 cc0_scratch3 cc0_scratch4 cc0_scratch5 c

/-- Part 3 plays: send transfer 0, store chunk 33, send transfer 1 and store chunk 34. -/
theorem part3 {v5 v8 v9 v13 v24} {Q} (h : ∀ r, Rem xs K c os ⊢ Q r) :
    Rem xs K c (send 0 :: fill {33} :: send 1 :: fill {34} :: os) ⊢ Run c (over (k0_part3 (F := F)) c v5 v8 v9 v13 v24) Q := by
  unfold over
  rw [k0_part3_eq_skeleton]; unfold k0_part3_skel
  simp only [Prog.lift, Prog.bind_op, Prog.bind_ret, Prog.pure_eq_ret]
  refine play_send 0 (dev_x c rfl (k0_dev4_eq c)) (off3_at c 0) rfl rfl ?_
  refine play_one (by decide) k0_pay2 (fun v => shapeCast_self v _) (off2_at c 1) (off1_at c 1) ?_
  refine play_send 1 (dev_x c rfl (k0_dev5_eq c)) (off3_at c 1) rfl rfl ?_
  refine play_one (by decide) k0_pay3 (fun v => shapeCast_self v _) (off2_at c 2) (off1_at c 2) ?_
  exact play_ret (h _)

/-- The fourth part ends between a load and its store: it hands the rows loaded on to the fifth. -/
theorem part4 {v5 v8 v9 v13 v24 v98 v99} {Q}
    (h : ∀ r : Σ' (v131 : BitVec 32), FVec F S64x512 .bf16,
      (∀ j, r.2 j = full xs c ((Rect.unit (s := S4096x512) (k0_off2 c 256#32) S64x512.size (k0_off2_inb c 4)).emb j)) → Rem xs K c (fill {36} :: os) ⊢ Q r) :
    Rem xs K c (send 2 :: fill {35} :: send 3 :: fill {36} :: os) ⊢ Run c (over (k0_part4 (F := F)) c v5 v8 v9 v13 v24 v98 v99) Q := by
  unfold over
  rw [k0_part4_eq_skeleton]; unfold k0_part4_skel
  simp only [Prog.lift, Prog.bind_op, Prog.bind_ret, Prog.pure_eq_ret]
  refine play_send 2 (dev_x c rfl (k0_dev6_eq c)) (off3_at c 2) rfl rfl ?_
  refine play_one (by decide) k0_pay4 (fun v => shapeCast_self v _) (off2_at c 3) (off1_at c 3) ?_
  refine play_send 3 (dev_x c rfl (k0_dev7_eq c)) (off3_at c 3) rfl rfl ?_
  refine play_loadx ?_
  refine play_loado (isRows_one c 36) (off2_at c 4) (by decide) fun _ => ?_
  have hp : ∀ v, k0_pay5 (F := F) v = v := fun v => shapeCast_self v _
  refine play_ret (h _ fun j => ?_)
  dsimp only
  rw [hp]
  exact own_rows xs c (n := 1) (off2_at c 4) (off1_at c 4) (by decide) (own_half c 36 (by decide)) rfl (by omega) j

/-- Part 5 plays: store chunk 36, send transfer 4, store chunk 37 and send transfer 5. -/
theorem part5 {v5 v8 v9 v13 v24 v131 v134} {Q}
    (hv : ∀ j, v134 j = full xs c ((Rect.unit (s := S4096x512) (k0_off2 c 256#32) S64x512.size (k0_off2_inb c 4)).emb j))
    (h : ∀ r, Rem xs K c os ⊢ Q r) :
    Rem xs K c (fill {36} :: send 4 :: fill {37} :: send 5 :: os) ⊢ Run c (over (k0_part5 (F := F)) c v5 v8 v9 v13 v24 v131 v134) Q := by
  unfold over
  rw [k0_part5_eq_skeleton]; unfold k0_part5_skel
  simp only [Prog.lift, Prog.bind_op, Prog.bind_ret, Prog.pure_eq_ret]
  refine play_store (isRows_one c 36) (off2_at c 4) (by decide) hv ?_
  refine play_send 4 (dev_x c rfl (k0_dev8_eq c)) (off3_at c 4) rfl rfl ?_
  refine play_one (by decide) k0_pay6 (fun v => shapeCast_self v _) (off2_at c 5) (off1_at c 5) ?_
  refine play_send 5 (dev_x c rfl (k0_dev9_eq c)) (off3_at c 5) rfl rfl ?_
  exact play_ret (h _)

/-- Part 6 plays: store chunk 38, send transfer 6 and store chunk 39. -/
theorem part6 {v5 v8 v9 v13 v24 v172} {Q} (h : ∀ r, Rem xs K c os ⊢ Q r) :
    Rem xs K c (fill {38} :: send 6 :: fill {39} :: os) ⊢ Run c (over (k0_part6 (F := F)) c v5 v8 v9 v13 v24 v172) Q := by
  unfold over
  rw [k0_part6_eq_skeleton]; unfold k0_part6_skel
  simp only [Prog.lift, Prog.bind_op, Prog.bind_ret, Prog.pure_eq_ret]
  refine play_one (by decide) k0_pay7 (fun v => shapeCast_self v _) (off2_at c 6) (off1_at c 6) ?_
  refine play_send 6 (dev_x c rfl (k0_dev10_eq c)) (off3_at c 6) rfl rfl ?_
  refine play_one (by decide) k0_pay8 (fun v => shapeCast_self v _) (off2_at c 7) (off1_at c 7) ?_
  exact play_ret (h _)

/-- Part 7 plays: send transfer 7, store chunk 40, send transfer 8 and store chunk 41. -/
theorem part7 {v5 v8 v9 v23 v24} {Q} (h : ∀ r, Rem xs K c os ⊢ Q r) :
    Rem xs K c (send 7 :: fill {40} :: send 8 :: fill {41} :: os) ⊢ Run c (over (k0_part7 (F := F)) c v5 v8 v9 v23 v24) Q := by
  unfold over
  rw [k0_part7_eq_skeleton]; unfold k0_part7_skel
  simp only [Prog.lift, Prog.bind_op, Prog.bind_ret, Prog.pure_eq_ret]
  refine play_send 7 (dev_x c rfl (k0_dev11_eq c)) (off3_at c 7) rfl rfl ?_
  refine play_one (by decide) k0_pay9 (fun v => shapeCast_self v _) (off5_at c 0) (off4_at c 0) ?_
  refine play_send 8 (dev_x c rfl (k0_dev12_eq c)) (off6_at c 0) rfl rfl ?_
  refine play_one (by decide) k0_pay10 (fun v => shapeCast_self v _) (off5_at c 1) (off4_at c 1) ?_
  exact play_ret (h _)

/-- Part 8 plays: send transfer 9, store chunk 42 and send transfer 10. -/
theorem part8 {v5 v8 v9 v13 v23 v24 c4_i32_130} {Q} (h : ∀ r, Rem xs K c os ⊢ Q r) :
    Rem xs K c (send 9 :: fill {42} :: send 10 :: os) ⊢ Run c (over (k0_part8 (F := F)) c v5 v8 v9 v13 v23 v24 c4_i32_130) Q := by
  unfold over
  rw [k0_part8_eq_skeleton]; unfold k0_part8_skel
  simp only [Prog.lift, Prog.bind_op, Prog.bind_ret, Prog.pure_eq_ret]
  refine play_send 9 (dev_x c rfl (k0_dev13_eq c)) (off6_at c 1) rfl rfl ?_
  refine play_one (by decide) k0_pay11 (fun v => shapeCast_self v _) (off5_at c 2) (off4_at c 2) ?_
  refine play_send 10 (dev_x c rfl (k0_dev14_eq c)) (off6_at c 2) rfl rfl ?_
  exact play_ret (h _)

/-! ## The quarters stored whole -/

/-- Quarter 0 is stored whole exactly on the devices whose script says so. -/
theorem cond1_at : ∀ c : Dev nD, (k0_cond1 c = 1#1 → IsRows c (32 * (c.val / 4) + 0) 8 (blk c 0)) ∧ (¬ k0_cond1 c = 1#1 → blk c 0 = ∅) := by decide +kernel
/-- Quarter 1 is stored whole exactly on the devices whose script says so. -/
theorem cond2_at : ∀ c : Dev nD, (k0_cond2 c = 1#1 → IsRows c (32 * (c.val / 4) + 8) 8 (blk c 1)) ∧ (¬ k0_cond2 c = 1#1 → blk c 1 = ∅) := by decide +kernel
/-- Quarter 2 is stored whole exactly on the devices whose script says so. -/
theorem cond3_at : ∀ c : Dev nD, (k0_cond3 c = 1#1 → IsRows c (32 * (c.val / 4) + 16) 8 (blk c 2)) ∧ (¬ k0_cond3 c = 1#1 → blk c 2 = ∅) := by decide +kernel
/-- Quarter 3 is stored whole exactly on the devices whose script says so. -/
theorem cond4_at : ∀ c : Dev nD, (k0_cond4 c = 1#1 → IsRows c (32 * (c.val / 4) + 24) 8 (blk c 3)) ∧ (¬ k0_cond4 c = 1#1 → blk c 3 = ∅) := by decide +kernel
/-- The rows at which quarter 0 is stored. -/
theorem off7_at : ∀ c : Dev nD, k0_off7 c = ![64 * (32 * (c.val / 4) + 0), 0] := by decide +kernel
/-- The rows at which quarter 1 is stored. -/
theorem off8_at : ∀ c : Dev nD, k0_off8 c = ![64 * (32 * (c.val / 4) + 8), 0] := by decide +kernel
/-- The rows at which quarter 2 is stored. -/
theorem off9_at : ∀ c : Dev nD, k0_off9 c = ![64 * (32 * (c.val / 4) + 16), 0] := by decide +kernel
/-- The rows at which quarter 3 is stored. -/
theorem off10_at : ∀ c : Dev nD, k0_off10 c = ![64 * (32 * (c.val / 4) + 24), 0] := by decide +kernel
/-- The last five chunks of the quarter of which three chunks are sent stand in a row. -/
theorem tail_rows : ∀ c : Dev nD, IsRows c (chunkAt c 43).val 5 tailChunks ∧ (chunkAt c 43).val % 32 + 5 ≤ 32 := by decide +kernel

/-- To store nothing is to do nothing. -/
theorem play_none : Rem xs K c (fill ∅ :: os) ⊢ Rem xs K c os := Rem_elim fun s hs => by
  have e : s.act (fill ∅) = s := by
    rw [PS.eq_iff]
    exact ⟨Finset.sdiff_empty, (congrArg (s.H ∪ ·) (Finset.product_empty _)).trans (Finset.union_empty _), rfl, rfl, rfl, rfl, rfl⟩
  have h := hs.2
  rw [e] at h
  exact Rem_intro h

/-- Quarter `q` stored, where the kernel's condition says so. -/
theorem play_quarter {α : Type} {Q : α → sProp 𝕄} {q m : ℕ} {cond : BitVec 1} {off off' : Fin 2 → ℕ} {inb : cond = 1#1 → ∀ a, off a + S512x512.size a ≤ S4096x512.size a} {inb' hl}
    {hl' : ∀ h : cond = 1#1, oM.view.LoadsAt (Rect.unit (s := S4096x512) off S512x512.size (inb h)).toLoadRect}
    (pay : ((Rect.unit (s := S2048x512) off' S512x512.size inb').toLoadRect.shape.Idx → Elt F .bf16) → S512x512.Idx → Elt F .bf16)
    (hp : ∀ v, pay v = v)
    (hq : (cond = 1#1 → IsRows c (32 * (c.val / 4) + m) 8 (blk c q)) ∧ (¬ cond = 1#1 → blk c q = ∅))
    (h0 : off = ![64 * (32 * (c.val / 4) + m), 0]) (h1 : off' = ![64 * m, 0]) (hm' : m + 8 ≤ 32) {hx : ∀ (h : cond = 1#1) (v : _), _} {hm : ∀ h : cond = 1#1, _}
    {k : Prog (TpuEff nD τ sig (Elt F) Λ₀ .tc) α} (h : Rem xs K c os ⊢ Run c k Q) :
    Rem xs K c (fill (blk c q) :: os) ⊢ Run c (if h : cond = 1#1 then
      .op (.load xM (Rect.unit (s := S2048x512) off' S512x512.size inb').toLoadRect hl) fun v =>
      .op (.load oM (Rect.unit (s := S4096x512) off S512x512.size (inb h)).toLoadRect (hl' h)) fun _ =>
      .op (.store oM (Rect.unit (s := S4096x512) off S512x512.size (inb h)) (pay v) Finset.univ (hx h v) (hm h)) fun _ => k
      else k) Q := by
  by_cases hc : cond = 1#1
  · rw [dif_pos hc]
    exact play_copy (inb := inb hc) pay hp (hq.1 hc) h0 (by rw [h1, show (32 * (c.val / 4) + m) % 32 = m by omega]) (by decide) (by omega) (by omega) h
  · rw [dif_neg hc, hq.2 hc]
    exact play_none.trans h

/-- Part 9 plays: store the quarters that this device stores whole, and the rest of the opposite quarter. -/
theorem part9 {v5 v9 v13 v23 v24 v26 v280 c0_i32_149} {Q} (h : ∀ r, Rem xs K c os ⊢ Q r) :
    Rem xs K c (fill (blk c 0) :: fill (blk c 1) :: fill (blk c 2) :: fill (blk c 3) :: fill tailChunks :: os) ⊢ Run c (over (k0_part9 (F := F)) c v5 v9 v13 v23 v24 v26 v280 c0_i32_149) Q := by
  unfold over
  rw [k0_part9_eq_skeleton]; unfold k0_part9_skel
  simp only [Prog.lift, Prog.bind_op, Prog.bind_ret, Prog.pure_eq_ret]
  refine play_quarter k0_pay12 (fun v => shapeCast_self v _) (cond1_at c) (off7_at c) rfl (by decide) ?_
  refine play_quarter k0_pay13 (fun v => shapeCast_self v _) (cond2_at c) (off8_at c) rfl (by decide) ?_
  refine play_quarter k0_pay14 (fun v => shapeCast_self v _) (cond3_at c) (off9_at c) rfl (by decide) ?_
  refine play_quarter k0_pay15 (fun v => shapeCast_self v _) (cond4_at c) (off10_at c) rfl (by decide) ?_
  refine play_copy k0_pay16 (fun v => shapeCast_self v _) (tail_rows c).1 (off12_at c) (off11_at c) (by decide) (own_half c 43 (by decide)) (tail_rows c).2 ?_
  exact play_ret (h _)

end Cert.Gather

end
-- ==== Proof.Relay.lean ====
/-
The parts that relay along y and z and wait

As for the parts before: the operations of each are the first of what is left of the script.
-/
module

public import proofs.«01_k».proof.Proof.Parts

@[expose] public section

noncomputable section

namespace Cert.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Op

variable {F : FTy → Type} [FloatOps F]

local notation "𝕄" => MT nD τ sig Unit (Elt F) ℕ UU ℕ

variable {xs : Fin 8 → XBuf F} {K : Dev nD × Cell → ℕ} {c : Dev nD} {os : List Op}

/-- Part 10 plays: await the landing of transfer 0 and send transfers 11 and 21. -/
theorem part10 {v2 v5 v8 v10 v11 v13 v26 v313} {Q} (h : ∀ r, Rem xs K c os ⊢ Q r) :
    Rem xs K c (got 0 :: send 11 :: send 21 :: os) ⊢ Run c (over (k0_part10 (F := F)) c v2 v5 v8 v10 v11 v13 v26 v313) Q := by
  unfold over
  rw [k0_part10_eq_skeleton]; unfold k0_part10_skel
  simp only [Prog.lift, Prog.bind_op, Prog.bind_ret, Prog.pure_eq_ret]
  refine play_got 0 rfl ?_
  refine play_send 11 (dev_y c rfl (k0_dev15_eq c)) (off13_at c 0) rfl rfl ?_
  refine play_send 21 (dev_z c rfl (k0_dev16_eq c)) (off13_at c 0) rfl rfl ?_
  exact play_ret (h _)

/-- Part 11 plays: await the landing of transfer 1 and send transfers 12 and 22. -/
theorem part11 {v2 v5 v8 v9 v10 v11 v13 c4_i32_195} {Q} (h : ∀ r, Rem xs K c os ⊢ Q r) :
    Rem xs K c (got 1 :: send 12 :: send 22 :: os) ⊢ Run c (over (k0_part11 (F := F)) c v2 v5 v8 v9 v10 v11 v13 c4_i32_195) Q := by
  unfold over
  rw [k0_part11_eq_skeleton]; unfold k0_part11_skel
  simp only [Prog.lift, Prog.bind_op, Prog.bind_ret, Prog.pure_eq_ret]
  refine play_got 1 rfl ?_
  refine play_send 12 (dev_y c rfl (k0_dev17_eq c)) (off13_at c 1) rfl rfl ?_
  refine play_send 22 (dev_z c rfl (k0_dev18_eq c)) (off13_at c 1) rfl rfl ?_
  exact play_ret (h _)

/-- Part 12 plays: await the landing of transfer 2 and send transfer 13. -/
theorem part12 {v2 v5 v8 v9 v10 v11 v26 v381} {Q} (h : ∀ r, Rem xs K c os ⊢ Q r) :
    Rem xs K c (got 2 :: send 13 :: os) ⊢ Run c (over (k0_part12 (F := F)) c v2 v5 v8 v9 v10 v11 v26 v381) Q := by
  unfold over
  rw [k0_part12_eq_skeleton]; unfold k0_part12_skel
  simp only [Prog.lift, Prog.bind_op, Prog.bind_ret, Prog.pure_eq_ret]
  refine play_got 2 rfl ?_
  refine play_send 13 (dev_y c rfl (k0_dev19_eq c)) (off13_at c 2) rfl rfl ?_
  exact play_ret (h _)

/-- Part 13 plays: send transfer 23, await the landing of transfer 3 and send transfer 14. -/
theorem part13 {v2 v5 v8 v9 v10 v11 v13 v26} {Q} (h : ∀ r, Rem xs K c os ⊢ Q r) :
    Rem xs K c (send 23 :: got 3 :: send 14 :: os) ⊢ Run c (over (k0_part13 (F := F)) c v2 v5 v8 v9 v10 v11 v13 v26) Q := by
  unfold over
  rw [k0_part13_eq_skeleton]; unfold k0_part13_skel
  simp only [Prog.lift, Prog.bind_op, Prog.bind_ret, Prog.pure_eq_ret]
  refine play_send 23 (dev_z c rfl (k0_dev20_eq c)) (off13_at c 2) rfl rfl ?_
  refine play_got 3 rfl ?_
  refine play_send 14 (dev_y c rfl (k0_dev21_eq c)) (off13_at c 3) rfl rfl ?_
  exact play_ret (h _)

/-- Part 14 plays: send transfer 24, await the landing of transfer 4 and send transfer 15. -/
theorem part14 {v2 v5 v8 v9 v10 v13 v26 v446 v447} {Q} (h : ∀ r, Rem xs K c os ⊢ Q r) :
    Rem xs K c (send 24 :: got 4 :: send 15 :: os) ⊢ Run c (over (k0_part14 (F := F)) c v2 v5 v8 v9 v10 v13 v26 v446 v447) Q := by
  unfold over
  rw [k0_part14_eq_skeleton]; unfold k0_part14_skel
  simp only [Prog.lift, Prog.bind_op, Prog.bind_ret, Prog.pure_eq_ret]
  refine play_send 24 (dev_z c rfl (k0_dev22_eq c)) (off13_at c 3) rfl rfl ?_
  refine play_got 4 rfl ?_
  refine play_send 15 (dev_y c rfl (k0_dev23_eq c)) (off13_at c 4) rfl rfl ?_
  exact play_ret (h _)

/-- Part 15 plays: send transfer 25 and await the landing of transfer 5. -/
theorem part15 {v2 v5 v8 v9 v10 v11 v13 v26 v480 c0_i32_290} {Q} (h : ∀ r, Rem xs K c os ⊢ Q r) :
    Rem xs K c (send 25 :: got 5 :: os) ⊢ Run c (over (k0_part15 (F := F)) c v2 v5 v8 v9 v10 v11 v13 v26 v480 c0_i32_290) Q := by
  unfold over
  rw [k0_part15_eq_skeleton]; unfold k0_part15_skel
  simp only [Prog.lift, Prog.bind_op, Prog.bind_ret, Prog.pure_eq_ret]
  refine play_send 25 (dev_z c rfl (k0_dev24_eq c)) (off13_at c 4) rfl rfl ?_
  refine play_got 5 rfl ?_
  exact play_ret (h _)

/-- Part 16 plays: send transfers 16 and 26 and await the landing of transfer 6. -/
theorem part16 {v2 v5 v8 v9 v10 v11 v13 v26} {Q} (h : ∀ r, Rem xs K c os ⊢ Q r) :
    Rem xs K c (send 16 :: send 26 :: got 6 :: os) ⊢ Run c (over (k0_part16 (F := F)) c v2 v5 v8 v9 v10 v11 v13 v26) Q := by
  unfold over
  rw [k0_part16_eq_skeleton]; unfold k0_part16_skel
  simp only [Prog.lift, Prog.bind_op, Prog.bind_ret, Prog.pure_eq_ret]
  refine play_send 16 (dev_y c rfl (k0_dev25_eq c)) (off13_at c 5) rfl rfl ?_
  refine play_send 26 (dev_z c rfl (k0_dev26_eq c)) (off13_at c 5) rfl rfl ?_
  refine play_got 6 rfl ?_
  exact play_ret (h _)

/-- Part 17 plays: send transfers 17 and 27 and await the landing of transfer 7. -/
theorem part17 {v2 v5 v8 v9 v10 v11 v13 v26} {Q} (h : ∀ r, Rem xs K c os ⊢ Q r) :
    Rem xs K c (send 17 :: send 27 :: got 7 :: os) ⊢ Run c (over (k0_part17 (F := F)) c v2 v5 v8 v9 v10 v11 v13 v26) Q := by
  unfold over
  rw [k0_part17_eq_skeleton]; unfold k0_part17_skel
  simp only [Prog.lift, Prog.bind_op, Prog.bind_ret, Prog.pure_eq_ret]
  refine play_send 17 (dev_y c rfl (k0_dev27_eq c)) (off13_at c 6) rfl rfl ?_
  refine play_send 27 (dev_z c rfl (k0_dev28_eq c)) (off13_at c 6) rfl rfl ?_
  refine play_got 7 rfl ?_
  exact play_ret (h _)

/-- Part 18 plays: send transfers 18 and 28 and await the landing of transfer 24. -/
theorem part18 {v2 v5 v8 v11 v16 v26 v580 v581} {Q} (h : ∀ r, Rem xs K c os ⊢ Q r) :
    Rem xs K c (send 18 :: send 28 :: got 24 :: os) ⊢ Run c (over (k0_part18 (F := F)) c v2 v5 v8 v11 v16 v26 v580 v581) Q := by
  unfold over
  rw [k0_part18_eq_skeleton]; unfold k0_part18_skel
  simp only [Prog.lift, Prog.bind_op, Prog.bind_ret, Prog.pure_eq_ret]
  refine play_send 18 (dev_y c rfl (k0_dev29_eq c)) (off13_at c 7) rfl rfl ?_
  refine play_send 28 (dev_z c rfl (k0_dev30_eq c)) (off13_at c 7) rfl rfl ?_
  refine play_got 24 rfl ?_
  exact play_ret (h _)

/-- Part 19 plays: send transfer 19 and await the landing of transfer 25. -/
theorem part19 {v2 v5 v8 v10 v11 v16 v26 v616} {Q} (h : ∀ r, Rem xs K c os ⊢ Q r) :
    Rem xs K c (send 19 :: got 25 :: os) ⊢ Run c (over (k0_part19 (F := F)) c v2 v5 v8 v10 v11 v16 v26 v616) Q := by
  unfold over
  rw [k0_part19_eq_skeleton]; unfold k0_part19_skel
  simp only [Prog.lift, Prog.bind_op, Prog.bind_ret, Prog.pure_eq_ret]
  refine play_send 19 (dev_y c rfl (k0_dev31_eq c)) (off14_at c 3) rfl rfl ?_
  refine play_got 25 rfl ?_
  exact play_ret (h _)

/-- Part 20 plays: send transfer 20 and await the landing of transfer 16. -/
theorem part20 {v2 v5 v8 v10 v11 v19 v26 v648 c2_i32_409} {Q} (h : ∀ r, Rem xs K c os ⊢ Q r) :
    Rem xs K c (send 20 :: got 16 :: os) ⊢ Run c (over (k0_part20 (F := F)) c v2 v5 v8 v10 v11 v19 v26 v648 c2_i32_409) Q := by
  unfold over
  rw [k0_part20_eq_skeleton]; unfold k0_part20_skel
  simp only [Prog.lift, Prog.bind_op, Prog.bind_ret, Prog.pure_eq_ret]
  refine play_send 20 (dev_y c rfl (k0_dev32_eq c)) (off14_at c 4) rfl rfl ?_
  refine play_got 16 rfl ?_
  exact play_ret (h _)

/-- Part 21 plays: send transfer 29, await the landing of transfer 17 and send transfer 30. -/
theorem part21 {v2 v5 v8 v10 v11 v19 v26} {Q} (h : ∀ r, Rem xs K c os ⊢ Q r) :
    Rem xs K c (send 29 :: got 17 :: send 30 :: os) ⊢ Run c (over (k0_part21 (F := F)) c v2 v5 v8 v10 v11 v19 v26) Q := by
  unfold over
  rw [k0_part21_eq_skeleton]; unfold k0_part21_skel
  simp only [Prog.lift, Prog.bind_op, Prog.bind_ret, Prog.pure_eq_ret]
  refine play_send 29 (dev_z c rfl (k0_dev33_eq c)) (off15_at c 5) rfl rfl ?_
  refine play_got 17 rfl ?_
  refine play_send 30 (dev_z c rfl (k0_dev34_eq c)) (off15_at c 6) rfl rfl ?_
  exact play_ret (h _)

/-- Part 22 plays: await the landing of transfer 18 and send transfer 31. -/
theorem part22 {v2 v5 v8 v9 v10 v11 v19 v23 v26} {Q} (h : ∀ r, Rem xs K c os ⊢ Q r) :
    Rem xs K c (got 18 :: send 31 :: os) ⊢ Run c (over (k0_part22 (F := F)) c v2 v5 v8 v9 v10 v11 v19 v23 v26) Q := by
  unfold over
  rw [k0_part22_eq_skeleton]; unfold k0_part22_skel
  simp only [Prog.lift, Prog.bind_op, Prog.bind_ret, Prog.pure_eq_ret]
  refine play_got 18 rfl ?_
  refine play_send 31 (dev_z c rfl (k0_dev35_eq c)) (off15_at c 7) rfl rfl ?_
  exact play_ret (h _)

/-- Part 23 plays: await the landing of transfers 8, 9 and 10. -/
theorem part23 {v5 v8 v9 v19 v23 v26 v749 v750} {Q} (h : ∀ r, Rem xs K c os ⊢ Q r) :
    Rem xs K c (got 8 :: got 9 :: got 10 :: os) ⊢ Run c (over (k0_part23 (F := F)) c v5 v8 v9 v19 v23 v26 v749 v750) Q := by
  unfold over
  rw [k0_part23_eq_skeleton]; unfold k0_part23_skel
  simp only [Prog.lift, Prog.bind_op, Prog.bind_ret, Prog.pure_eq_ret]
  refine play_got 8 rfl ?_
  refine play_got 9 rfl ?_
  refine play_got 10 rfl ?_
  exact play_ret (h _)

/-- Part 24 plays: await the landing of transfers 11 and 12. -/
theorem part24 {v2 v8 v10 v19 v26 v783 c0_i32_504} {Q} (h : ∀ r, Rem xs K c os ⊢ Q r) :
    Rem xs K c (got 11 :: got 12 :: os) ⊢ Run c (over (k0_part24 (F := F)) c v2 v8 v10 v19 v26 v783 c0_i32_504) Q := by
  unfold over
  rw [k0_part24_eq_skeleton]; unfold k0_part24_skel
  simp only [Prog.lift, Prog.bind_op, Prog.bind_ret, Prog.pure_eq_ret]
  refine play_got 11 rfl ?_
  refine play_got 12 rfl ?_
  exact play_ret (h _)

/-- Part 25 plays: await the landing of transfers 13, 14 and 15. -/
theorem part25 {v2 v8 v10 v16 v19 v26 v814 v815} {Q} (h : ∀ r, Rem xs K c os ⊢ Q r) :
    Rem xs K c (got 13 :: got 14 :: got 15 :: os) ⊢ Run c (over (k0_part25 (F := F)) c v2 v8 v10 v16 v19 v26 v814 v815) Q := by
  unfold over
  rw [k0_part25_eq_skeleton]; unfold k0_part25_skel
  simp only [Prog.lift, Prog.bind_op, Prog.bind_ret, Prog.pure_eq_ret]
  refine play_got 13 rfl ?_
  refine play_got 14 rfl ?_
  refine play_got 15 rfl ?_
  exact play_ret (h _)

/-- Part 26 plays: await the landing of transfers 21 and 22. -/
theorem part26 {v2 v5 v11 v16 v26 v848 c0_i32_554} {Q} (h : ∀ r, Rem xs K c os ⊢ Q r) :
    Rem xs K c (got 21 :: got 22 :: os) ⊢ Run c (over (k0_part26 (F := F)) c v2 v5 v11 v16 v26 v848 c0_i32_554) Q := by
  unfold over
  rw [k0_part26_eq_skeleton]; unfold k0_part26_skel
  simp only [Prog.lift, Prog.bind_op, Prog.bind_ret, Prog.pure_eq_ret]
  refine play_got 21 rfl ?_
  refine play_got 22 rfl ?_
  exact play_ret (h _)

/-- Part 27 plays: await the landing of transfers 23, 26 and 27. -/
theorem part27 {v2 v5 v11 v16 v26 v879 v880} {Q} (h : ∀ r, Rem xs K c os ⊢ Q r) :
    Rem xs K c (got 23 :: got 26 :: got 27 :: os) ⊢ Run c (over (k0_part27 (F := F)) c v2 v5 v11 v16 v26 v879 v880) Q := by
  unfold over
  rw [k0_part27_eq_skeleton]; unfold k0_part27_skel
  simp only [Prog.lift, Prog.bind_op, Prog.bind_ret, Prog.pure_eq_ret]
  refine play_got 23 rfl ?_
  refine play_got 26 rfl ?_
  refine play_got 27 rfl ?_
  exact play_ret (h _)

/-- Part 28 plays: await the landing of transfers 28 and 19. -/
theorem part28 {v2 v5 v8 v10 v11 v23 v26 v913 c448_i32_604} {Q} (h : ∀ r, Rem xs K c os ⊢ Q r) :
    Rem xs K c (got 28 :: got 19 :: os) ⊢ Run c (over (k0_part28 (F := F)) c v2 v5 v8 v10 v11 v23 v26 v913 c448_i32_604) Q := by
  unfold over
  rw [k0_part28_eq_skeleton]; unfold k0_part28_skel
  simp only [Prog.lift, Prog.bind_op, Prog.bind_ret, Prog.pure_eq_ret]
  refine play_got 28 rfl ?_
  refine play_got 19 rfl ?_
  exact play_ret (h _)

/-- Part 29 plays: await the landing of transfers 20, 29 and 30. -/
theorem part29 {v2 v5 v11 v23 v26 v944 v945} {Q} (h : ∀ r, Rem xs K c os ⊢ Q r) :
    Rem xs K c (got 20 :: got 29 :: got 30 :: os) ⊢ Run c (over (k0_part29 (F := F)) c v2 v5 v11 v23 v26 v944 v945) Q := by
  unfold over
  rw [k0_part29_eq_skeleton]; unfold k0_part29_skel
  simp only [Prog.lift, Prog.bind_op, Prog.bind_ret, Prog.pure_eq_ret]
  refine play_got 20 rfl ?_
  refine play_got 29 rfl ?_
  refine play_got 30 rfl ?_
  exact play_ret (h _)

/-- Part 30 plays: await the landing of transfer 31 and await the source of transfers 0, 1, 2 and 3. -/
theorem part30 {v2 v5 v11 v978 c448_i32_654} {Q} (h : ∀ r, Rem xs K c os ⊢ Q r) :
    Rem xs K c (got 31 :: back 0 :: back 1 :: back 2 :: back 3 :: os) ⊢ Run c (over (k0_part30 (F := F)) c v2 v5 v11 v978 c448_i32_654) Q := by
  unfold over
  rw [k0_part30_eq_skeleton]; unfold k0_part30_skel
  simp only [Prog.lift, Prog.bind_op, Prog.bind_ret, Prog.pure_eq_ret]
  refine play_got 31 rfl ?_
  refine play_back 0 rfl ?_
  refine play_back 1 rfl ?_
  refine play_back 2 rfl ?_
  refine play_back 3 rfl ?_
  exact play_ret (h _)

/-- Part 31 plays: await the source of transfers 4, 5, 6, 7, 8 and 9. -/
theorem part31 {Q} (h : ∀ r, Rem xs K c os ⊢ Q r) :
    Rem xs K c (back 4 :: back 5 :: back 6 :: back 7 :: back 8 :: back 9 :: os) ⊢ Run c (over (k0_part31 (F := F)) c) Q := by
  unfold over
  rw [k0_part31_eq_skeleton]; unfold k0_part31_skel
  simp only [Prog.lift, Prog.bind_op, Prog.bind_ret, Prog.pure_eq_ret]
  refine play_back 4 rfl ?_
  refine play_back 5 rfl ?_
  refine play_back 6 rfl ?_
  refine play_back 7 rfl ?_
  refine play_back 8 rfl ?_
  refine play_back 9 rfl ?_
  exact play_ret (h _)

/-- Part 32 plays: await the source of transfers 10, 11, 12, 13, 14 and 15. -/
theorem part32 {Q} (h : ∀ r, Rem xs K c os ⊢ Q r) :
    Rem xs K c (back 10 :: back 11 :: back 12 :: back 13 :: back 14 :: back 15 :: os) ⊢ Run c (over (k0_part32 (F := F)) c) Q := by
  unfold over
  rw [k0_part32_eq_skeleton]; unfold k0_part32_skel
  simp only [Prog.lift, Prog.bind_op, Prog.bind_ret, Prog.pure_eq_ret]
  refine play_back 10 rfl ?_
  refine play_back 11 rfl ?_
  refine play_back 12 rfl ?_
  refine play_back 13 rfl ?_
  refine play_back 14 rfl ?_
  refine play_back 15 rfl ?_
  exact play_ret (h _)

/-- Part 33 plays: await the source of transfers 16, 17, 18, 19, 20 and 21. -/
theorem part33 {Q} (h : ∀ r, Rem xs K c os ⊢ Q r) :
    Rem xs K c (back 16 :: back 17 :: back 18 :: back 19 :: back 20 :: back 21 :: os) ⊢ Run c (over (k0_part33 (F := F)) c) Q := by
  unfold over
  rw [k0_part33_eq_skeleton]; unfold k0_part33_skel
  simp only [Prog.lift, Prog.bind_op, Prog.bind_ret, Prog.pure_eq_ret]
  refine play_back 16 rfl ?_
  refine play_back 17 rfl ?_
  refine play_back 18 rfl ?_
  refine play_back 19 rfl ?_
  refine play_back 20 rfl ?_
  refine play_back 21 rfl ?_
  exact play_ret (h _)

/-- Part 34 plays: await the source of transfers 22, 23, 24, 25, 26 and 27. -/
theorem part34 {Q} (h : ∀ r, Rem xs K c os ⊢ Q r) :
    Rem xs K c (back 22 :: back 23 :: back 24 :: back 25 :: back 26 :: back 27 :: os) ⊢ Run c (over (k0_part34 (F := F)) c) Q := by
  unfold over
  rw [k0_part34_eq_skeleton]; unfold k0_part34_skel
  simp only [Prog.lift, Prog.bind_op, Prog.bind_ret, Prog.pure_eq_ret]
  refine play_back 22 rfl ?_
  refine play_back 23 rfl ?_
  refine play_back 24 rfl ?_
  refine play_back 25 rfl ?_
  refine play_back 26 rfl ?_
  refine play_back 27 rfl ?_
  exact play_ret (h _)

end Cert.Gather

end
-- ==== Proof.Body.lean ====
/-
The body: the barrier, and all the parts in a row

A device starts with its staged block and the whole staged result. At the barrier it gives each neighbour the far chunks that
neighbour's transfers land in, and gets the chunks its own transfers land in; then it plays the script to its end.
-/
module

public import proofs.«01_k».proof.Proof.Relay

@[expose] public section

noncomputable section

namespace Cert.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Op

variable {F : FTy → Type} [FloatOps F]

local notation "𝕄" => MT nD τ sig Unit (Elt F) ℕ UU ℕ

variable {xs : Fin 8 → XBuf F} {K : Dev nD × Cell → ℕ} {c : Dev nD} {os : List Op}

/-! ## The far chunks, neighbour by neighbour -/

/-- The number of the chunk that a transfer lands in, as an embedding. -/
def landEmb : Fin 32 ↪ Fin 64 := ⟨landNo, by decide +kernel⟩

omit [FloatOps F] in
/-- Something for each transfer is something for each along each axis. -/
theorem by_axis (Φ : Fin 32 → sProp 𝕄) :
    bigSep Finset.univ Φ = bigSep Finset.univ fun d : Fin 3 => bigSep (Finset.univ.filter fun t => ax t = d) Φ := by
  have hU : (Finset.univ : Finset (Fin 32)) = Finset.univ.biUnion fun d => Finset.univ.filter fun t => ax t = d := by decide +kernel
  conv_lhs => rw [hU]
  exact BI.bigSep_biUnion_eq _ _ _ fun d _ d' _ h => Finset.disjoint_left.mpr fun t h1 h2 => h ((Finset.mem_filter.mp h1).2.symm.trans (Finset.mem_filter.mp h2).2)

omit [FloatOps F] in
/-- Three things, one by one. -/
theorem by_three (Φ : Fin 3 → sProp 𝕄) : bigSep Finset.univ Φ = iprop(Φ 0 ∗ Φ 1 ∗ Φ 2) := bigSep_univ_eq_bigSepL [0, 1, 2] (by decide) (by decide) Φ

omit [FloatOps F] in
/-- What device `c` gives its neighbour along `d`: its own chunks that the neighbour's transfers land in. -/
theorem given_eq (c : Dev nD) (d : Fin 3) (f : OBuf F) :
    (bigSep (Finset.univ.filter fun t => ax t = d) fun t => chunkPts c fullShare (chunkAt c (landNo t)) f) ⊢ barPay (F := F) (nb d c) d := by
  unfold barPay
  refine bigSep_mono fun t ht => ?_
  have hd : nb d c = peer t c := by unfold peer; rw [(Finset.mem_filter.mp ht).2]
  rw [hd, ← chunk_land (peer t c) t, peer_peer]
  show _ ⊢ iprop(∃ f, chunkPts c fullShare (chunkAt c (landNo t)) f)
  iintro H
  iexists f; iexact H

omit [FloatOps F] in
/-- The whole staged result: what is given to the three neighbours, and the own half. -/
theorem whole_split (c : Dev nD) (f : OBuf F) :
    ((oLoc c) ↦{fullShare} f : sProp 𝕄) ⊢ iprop((barPay (F := F) (nb 0 c) 0 ∗ barPay (F := F) (nb 1 c) 1 ∗ barPay (F := F) (nb 2 c) 2)
      ∗ ((oLoc c) ↦[region c PS.first.U]{fullShare} f)) := by
  have hU : Finset.univ \ (Finset.univ.map landEmb) = PS.first.U := by decide +kernel
  have h := (rows_split (F := F) c (Finset.subset_univ (Finset.univ.map landEmb)) f).1
  rw [region_univ, hU, rows_chunks, BI.bigSep_map, by_axis, by_three] at h
  refine h.trans (sep_mono_left ?_)
  exact BIClass.sep_mono (given_eq c 0 f) (BIClass.sep_mono (given_eq c 1 f) (given_eq c 2 f))

/-! ## The start -/

/-- A device's own positions and the tokens of what it pays: to each neighbour's barrier, and for each transfer at both ends. -/
def dealt (c : Dev nD) : sProp 𝕄 :=
  iprop(atPos ER (barCell c) 0 ∅ 0 ∗ (bigSep Finset.univ fun t => atPos ER (sendCell c t) 0 ∅ 0) ∗ (bigSep Finset.univ fun t => atPos ER (recvCell c t) 0 ∅ 0)
    ∗ (bigSep Finset.univ fun d => dutyTok ER (barCell (nb d c)) 0 d)
    ∗ (bigSep Finset.univ fun t => dutyTok ER (sendCell c t) 0 0) ∗ (bigSep Finset.univ fun t => dutyTok ER (recvCell (peer t c) t) 0 0))

/-- The credits it waits with: three units at its barrier, a chunk's for each landing. -/
def credits (c : Dev nD) : sProp 𝕄 := iprop(cred (tallyAt (barCell c) () 3) ∗ bigSep Finset.univ fun t => cred (tallyAt (recvCell c t) () N))

variable (xs K c) in
/-- What the body starts with. -/
def atStart : sProp 𝕄 :=
  iprop(records xs K ∗ levAts L lv ∗ dealt c ∗ credits c ∗ (∃ W, owes (c : Thread nD τ) (O₀ c) W) ∗ xPts xs c ∗ ∃ f, (oLoc c) ↦{fullShare} f)

/-- The barrier: a signal to each neighbour, and the wait for theirs. -/
theorem handshake {α : Type} {Q : α → sProp 𝕄} {n₀ n₁ n₂ : Dev nD} (h₀ : n₀ = nb 0 c) (h₁ : n₁ = nb 1 c) (h₂ : n₂ = nb 2 c)
    {k : PUnit → Prog (TpuEff nD τ sig (Elt F) Λ₀ .tc) α} (h : Rem xs K c (script c) ⊢ Run c (k ⟨⟩) Q) :
    atStart xs K c ⊢ Run c (.op (.semSignal (n₀ : Thread nD τ) barS (1#32).toInt) fun _ => .op (.semSignal (n₁ : Thread nD τ) barS (1#32).toInt) fun _ =>
      .op (.semSignal (n₂ : Thread nD τ) barS (1#32).toInt) fun _ => .op (.semWait barS (3#32).toInt) k) fun a => iprop(semVal (barCell c) 0 ∗ Q a) := by
  subst h₀ h₁ h₂
  unfold atStart dealt credits
  iintro ⟨#HR, #HL, ⟨HaB, HaS, HaV, HtB, HtS, HtV⟩, ⟨HcB, HcV⟩, ⟨%W, HO⟩, Hx, ⟨%f, Hout⟩⟩
  ihave Hout := (whole_split c f) $$ Hout
  icases Hout with ⟨⟨Hp0, Hp1, Hp2⟩, Hown⟩
  ihave HtB := (Entails.of_eq (by_three fun d => dutyTok ER (barCell (nb d c)) 0 d)) $$ HtB
  icases HtB with ⟨Ht0, Ht1, Ht2⟩
  iapply (Rounds.wp_signal 𝒱₀ ER (plan xs) (c : Thread nD τ) none (dst := (nb 0 c : Thread nD τ)) (κ := K (nb 0 c, none)) (sem := barS) (k' := 1)
      (d := 0) (by rw [duties_bar]; exact Finset.mem_univ _) rfl () (O₁ c) rfl) $$ [HO Ht0 Hp0]
  · isplitr; · iapply (inv_of xs K (nb 0 c, none)); iexact HR
    isplitl [HO]; · iexact HO
    isplitl [Ht0]; · iexact Ht0
    isplitl [Hp0]; · rw [payload_bar]; iexact Hp0
    iapply (reached_of xs K (nb 0 c, none)); iexact HR
  iintro HO
  iapply (Rounds.wp_signal 𝒱₀ ER (plan xs) (c : Thread nD τ) none (dst := (nb 1 c : Thread nD τ)) (κ := K (nb 1 c, none)) (sem := barS) (k' := 1)
      (d := 1) (by rw [duties_bar]; exact Finset.mem_univ _) rfl () (O₂ c) rfl) $$ [HO Ht1 Hp1]
  · isplitr; · iapply (inv_of xs K (nb 1 c, none)); iexact HR
    isplitl [HO]; · iexact HO
    isplitl [Ht1]; · iexact Ht1
    isplitl [Hp1]; · rw [payload_bar]; iexact Hp1
    iapply (reached_of xs K (nb 1 c, none)); iexact HR
  iintro HO
  iapply (Rounds.wp_signal 𝒱₀ ER (plan xs) (c : Thread nD τ) none (dst := (nb 2 c : Thread nD τ)) (κ := K (nb 2 c, none)) (sem := barS) (k' := 1)
      (d := 2) (by rw [duties_bar]; exact Finset.mem_univ _) rfl () (due c Finset.univ) rfl) $$ [HO Ht2 Hp2]
  · isplitr; · iapply (inv_of xs K (nb 2 c, none)); iexact HR
    isplitl [HO]; · iexact HO
    isplitl [Ht2]; · iexact Ht2
    isplitl [Hp2]; · rw [payload_bar]; iexact Hp2
    iapply (reached_of xs K (nb 2 c, none)); iexact HR
  iintro HO
  iapply (Rounds.wp_wait_rest_token 𝒱₀ ER (plan xs) (c : Thread nD τ) none (κ := K (c, none))
      (wpE_semWait_eq 𝒱₀ (c : Thread nD τ) none Set.univ) (Set.mem_univ _) () (O := due c Finset.univ) (W := W) (R := 0) (m := 0) (T := ∅)
      (by rw [expect_bar]; decide)) $$ [HcB HO HaB]
  · isplitr; · iapply (inv_of xs K (c, none)); iexact HR
    isplitl [HcB]; · iexact HcB
    isplitl [HO]; · iexact HO
    isplitr; · iapply (mayWait_due c (.reg barS) Finset.univ fun t _ => rank_pos t); iexact HL
    iexact HaB
  iintro ⟨HO, HaB, -, Hpay⟩
  ihave Hpay := (Entails.of_eq (rest_bar xs c)) $$ Hpay
  imod (Rounds.cell_close ER (plan xs) (Set.mem_univ (K (c, none))) (fun h => h) (R := 0 + 1) (duties_later xs (barCell c))) $$ [HaB] with Hz
  · isplitr; · iapply (inv_of xs K (c, none)); iexact HR
    iexact HaB
  iapply (wp_frame_l frame (wpE (defs₀ (F := F)) 𝒱₀ (c : Thread nD τ) none) Set.univ)
  isplitl [Hz]; · iexact Hz
  iapply h
  iapply (Rem_intro (script_plays c))
  unfold Pst held ready coming PS.first
  simp only [bigSep_sep', bigSep_empty]
  isplitr; · iexact HR
  isplitr; · iexact HL
  isplitl [Hown]; · iexists f; iexact Hown
  isplitr; · iempintro
  isplitl [Hpay HaS HtS HtV]
  · isplitl [Hpay]; · iexact Hpay
    isplitl [HaS]; · iexact HaS
    isplitl [HtS] <;> iassumption
  isplitr; · iempintro
  isplitr; · iempintro
  isplitl [HaV HcV]
  · isplitl [HaV] <;> iassumption
  isplitr; · iempintro
  isplitl [HO]; · iexists _; iexact HO
  iexact Hx

/-! ## The parts in a row -/

/-- A program and what follows it, run one after the other. -/
theorem play_bind {α β : Type} {G : sProp 𝕄} {p : Prog (TpuEff nD τ sig (Elt F) Λ₀ .tc) α} {f : α → Prog (TpuEff nD τ sig (Elt F) Λ₀ .tc) β} {Q : β → sProp 𝕄}
    (h : G ⊢ Run c p fun a => Run c (f a) Q) : G ⊢ Run c (p >>= f) Q := by
  unfold Run at h ⊢
  exact h.trans (Entails.of_eq (wp_bind _ _ _ _ _ _).symm)

/-- A run may be given a weaker end. -/
theorem run_mono {α : Type} {p : Prog (TpuEff nD τ sig (Elt F) Λ₀ .tc) α} {Q Q' : α → sProp 𝕄} (h : ∀ a, Q a ⊢ Q' a) : Run c p Q ⊢ Run c p Q' := by
  unfold Run
  exact wp_mono frame (wpE (defs₀ (F := F)) 𝒱₀ (c : Thread nD τ) none) Set.univ h

/-- A part keeps the barrier it does not touch. -/
theorem keep_bar {α : Type} {p : Prog (TpuEff nD τ sig (Elt F) Λ₀ .tc) α} {G : sProp 𝕄} {Q : α → sProp 𝕄} (h : G ⊢ Run c p Q) :
    iprop(semVal (barCell c) 0 ∗ G) ⊢ Run c p fun a => iprop(semVal (barCell c) 0 ∗ Q a) := by
  unfold Run at h ⊢
  iintro ⟨Hz, HG⟩
  iapply (wp_frame_l frame (wpE (defs₀ (F := F)) 𝒱₀ (c : Thread nD τ) none) Set.univ)
  isplitl [Hz]; · iexact Hz
  iapply h; iexact HG

/-- The first part reads the device's number, and computes with it. -/
theorem part1 {G : sProp 𝕄} {Q}
    (h : ∀ w2 w5 w8 w9 w10 w11 w13 w16 w19 w23 w24 w26, G ⊢ Q ⟨c, w2, w5, w8, w9, w10, w11, w13, w16, w19, w23, w24, w26, SemArray.scalar (sig.barrier 0 rfl)⟩) :
    G ⊢ Run c (k0_part1 (F := F) xM (hstage0_0 0) oM (hstage0_1 0) cc0_scratch0 cc0_scratch1 cc0_scratch2 cc0_scratch3 cc0_scratch4 cc0_scratch5) Q := by
  rw [k0_part1_eq_skeleton]; unfold k0_part1_skel
  simp only [Prog.lift, Prog.bind_op, Prog.bind_ret, Prog.pure_eq_ret]
  unfold Run
  rw [wp_deviceId, wp_ret]
  refine BIBase.Entails.trans ?_ fupd_intro
  exact h _ _ _ _ _ _ _ _ _ _ _ _

/-- The second part is the barrier and the first chunk copied. -/
theorem part2 {v2 v5 v8 v9 v10 v11 v13 v24} {Q} (hs : script c = fill {32} :: os) (h : ∀ r, iprop(semVal (barCell c) 0 ∗ Rem xs K c os) ⊢ Q r) :
    atStart xs K c ⊢ Run c (over (k0_part2 (F := F)) c v2 v5 v8 v9 v10 v11 v13 v24 (SemArray.scalar (sig.barrier 0 rfl)))
      Q := by
  unfold over
  rw [k0_part2_eq_skeleton]; unfold k0_part2_skel
  simp only [semSignalWord, semWaitWord, Prog.lift, Prog.bind_op, Prog.bind_ret, Prog.pure_eq_ret]
  refine BIBase.Entails.trans ?_ (run_mono h)
  refine handshake (Q := fun _ => Rem xs K c os) ((dev_x c (t := 0) rfl (k0_dev1_eq c)).trans rfl) ((dev_y c (t := 11) rfl (k0_dev2_eq c)).trans rfl) ((dev_z c (t := 21) rfl (k0_dev3_eq c)).trans rfl) ?_
  rw [hs]
  refine play_one (by decide) k0_pay1 (fun v => shapeCast_self v _) (off2_at c 0) (off1_at c 0) ?_
  exact play_ret .rfl

/-- The body up to its last two waits: the barrier, then every part in a row. -/
theorem part35 {G : sProp 𝕄} (hG : G = atStart xs K c) :
    G ⊢ Run c (k0_part35 (F := F) xM (hstage0_0 0) oM (hstage0_1 0) cc0_scratch0 cc0_scratch1 cc0_scratch2 cc0_scratch3 cc0_scratch4 cc0_scratch5)
      fun d => iprop(semVal (barCell c) 0 ∗ ⌜d = c⌝ ∗ Rem xs K c [back 30, back 31]) := by
  subst hG
  rw [k0_part35_eq_skeleton]; unfold k0_part35_skel
  refine play_bind (part1 fun _ _ _ _ _ _ _ _ _ _ _ _ => ?_)
  refine play_bind (part2 rfl fun _ => ?_)
  refine keep_bar ?_
  refine play_bind (part3 fun r => ?_)
  obtain ⟨_, _⟩ := r
  refine play_bind (part4 fun r hr => ?_)
  obtain ⟨_, _⟩ := r
  refine play_bind (part5 hr fun _ => ?_)
  refine play_bind (part6 fun _ => ?_)
  refine play_bind (part7 fun _ => ?_)
  refine play_bind (part8 fun r => ?_)
  obtain ⟨_, _⟩ := r
  refine play_bind (part9 fun _ => ?_)
  refine play_bind (part10 fun _ => ?_)
  refine play_bind (part11 fun _ => ?_)
  refine play_bind (part12 fun _ => ?_)
  refine play_bind (part13 fun r => ?_)
  obtain ⟨_, _⟩ := r
  refine play_bind (part14 fun r => ?_)
  obtain ⟨_, _⟩ := r
  refine play_bind (part15 fun _ => ?_)
  refine play_bind (part16 fun _ => ?_)
  refine play_bind (part17 fun r => ?_)
  obtain ⟨_, _⟩ := r
  refine play_bind (part18 fun _ => ?_)
  refine play_bind (part19 fun r => ?_)
  obtain ⟨_, _⟩ := r
  refine play_bind (part20 fun _ => ?_)
  refine play_bind (part21 fun _ => ?_)
  refine play_bind (part22 fun r => ?_)
  obtain ⟨_, _⟩ := r
  refine play_bind (part23 fun r => ?_)
  obtain ⟨_, _⟩ := r
  refine play_bind (part24 fun r => ?_)
  obtain ⟨_, _⟩ := r
  refine play_bind (part25 fun r => ?_)
  obtain ⟨_, _⟩ := r
  refine play_bind (part26 fun r => ?_)
  obtain ⟨_, _⟩ := r
  refine play_bind (part27 fun r => ?_)
  obtain ⟨_, _⟩ := r
  refine play_bind (part28 fun r => ?_)
  obtain ⟨_, _⟩ := r
  refine play_bind (part29 fun r => ?_)
  obtain ⟨_, _⟩ := r
  refine play_bind (part30 fun _ => ?_)
  refine play_bind (part31 fun _ => ?_)
  refine play_bind (part32 fun _ => ?_)
  refine play_bind (part33 fun _ => ?_)
  refine play_bind (part34 fun _ => ?_)
  simp only [Prog.lift, Prog.bind_op, Prog.bind_ret, Prog.pure_eq_ret]
  refine play_back 28 rfl ?_
  refine play_back 29 rfl ?_
  refine play_ret ?_
  iintro H
  isplitr; · ipureintro; rfl
  iexact H

/-! ## The end -/

variable (xs c) in
/-- What the body ends with: every cell at zero, nothing owed, the block as it was and the whole staged result right. -/
def atEnd : sProp 𝕄 :=
  iprop(semVal (barCell c) 0 ∗ ((bigSep Finset.univ fun t => semVal (sendCell c t) 0) ∗ (bigSep Finset.univ fun t => semVal (recvCell c t) 0))
    ∗ (∃ W, owes (c : Thread nD τ) 0 W) ∗ xPts xs c ∗ (oLoc c) ↦{fullShare} full xs c)

/-- Nothing left to do means the end. -/
theorem Rem_end : iprop(semVal (barCell c) 0 ∗ Rem xs K c []) ⊢ atEnd xs c := by
  iintro ⟨Hz, H⟩
  unfold Rem
  icases H with ⟨%s, %hs, H⟩
  obtain rfl : s = PS.last := hs
  have hall : bigSep PS.last.H (fin xs c) ⊢ ((oLoc c) ↦{fullShare} full xs c : sProp 𝕄) := by
    have h := rows_fin xs c Finset.univ
    rw [region_univ] at h
    exact Entails.of_eq h.symm
  unfold Pst held atEnd
  icases H with ⟨-, -, -, HH, -, -, HD, -, HE, ⟨%W, HO⟩, Hx⟩
  isplitl [Hz]; · iexact Hz
  isplitl [HD HE]
  · isplitl [HD]; · iexact HD
    iexact HE
  isplitl [HO]
  · iexists W
    rw [show due c PS.last.S = 0 from due_empty c]
    iexact HO
  isplitl [Hx]; · iexact Hx
  iapply hall; iexact HH

omit [FloatOps F] in
/-- To use a fact that is held, use it as a hypothesis. -/
theorem given {φ : Prop} {P R : sProp 𝕄} (h : φ → P ⊢ R) : iprop(⌜φ⌝ ∗ P) ⊢ R := by
  iintro ⟨%hφ, H⟩
  iapply (h hφ); iexact H

variable (xs K c) in
/-- The whole body, from start to end. -/
theorem body_run :
    atStart xs K c ⊢ Run c (cc0_body (F := F) xM (hstage0_0 0) oM (hstage0_1 0) cc0_scratch0 cc0_scratch1 cc0_scratch2 cc0_scratch3 cc0_scratch4 cc0_scratch5)
      fun _ => atEnd xs c := by
  refine BIBase.Entails.trans ?_ (run_mono fun _ => Rem_end (K := K))
  rw [cc0_body_eq_skeleton]; unfold cc0_body_skel
  refine play_bind ((part35 rfl).trans (run_mono fun d => ?_))
  refine BIBase.Entails.trans ?_ (keep_bar (G := iprop(⌜d = c⌝ ∗ Rem xs K c [back 30, back 31])) (Q := fun _ => Rem xs K c []) ?_)
  · exact .rfl
  refine given fun hd => ?_
  subst hd
  simp only [Prog.lift, Prog.bind_op, Prog.bind_ret, Prog.pure_eq_ret]
  refine play_back 30 rfl ?_
  refine play_back 31 rfl ?_
  exact play_ret .rfl

end Cert.Gather

end
-- ==== Proof.Launch.lean ====
/-
The launch: eight devices, each running the body

What each device gets at launch, how the payments are dealt to those who owe them, and the run of the whole program.
-/
module

public import proofs.«01_k».proof.Proof.Body
public import proofs.«01_k».proof.Proof.Gen.KernelIdeal.Launch
public import proofs.«01_k».proof.Proof.Gen.KernelIdeal.Points
public import Idealize.ShloMosaic.Lib.Pipeline.Launch
public import Idealize.ShloMosaic.Lib.Pipeline.CollectiveSegs
public import Idealize.ShloMosaic.Lib.Tactic

@[expose] public section

noncomputable section

namespace Cert.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Op
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch. -/
def s₀ : MemSt nD τ sig (Elt F) := ⟨m, fun _ => 0, ρ⟩

/-- What the fetch stages of device `c`'s block. -/
def xstg (c : Dev nD) : XBuf F := (win0_0.blk (0 : Fin 1)).view.read (Elt F) ((s₀ m ρ).mem ((c : Thread nD τ).loc main_arg0))

/-! ## The proof data -/

/-- What device `c` starts from: its positions and tokens, under some names of the invariants, its credits and the ranks. -/
def start (c : Dev nD) : sProp 𝕄 := iprop((∃ K, records (xstg m ρ) K ∗ dealt c) ∗ credits c ∗ levAts L lv)

/-- What it ends with besides its windows: every cell at zero. -/
def ended (c : Dev nD) : sProp 𝕄 :=
  iprop(semVal (barCell c) 0 ∗ (bigSep Finset.univ fun t => semVal (sendCell c t) 0) ∗ (bigSep Finset.univ fun t => semVal (recvCell c t) 0))

/-- The two windows: what their arrays hold at launch, and what the body leaves in their staging buffers. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => full (xstg m ρ) c
  Φ t := match t with
    | ⟨0, _⟩ => start m ρ c
    | ⟨_ + 1, _⟩ => ended c
  q _ := fullShare
  owed t := match t with
    | ⟨0, _⟩ => O₀ c
    | ⟨_ + 1, _⟩ => 0

omit [FloatOps F] in
/-- To hold a whole buffer with contents `X` is to hold its staging form. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body's obligation -/

/-- Staging buffer `b` holds `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the body starts from: the start, what is owed, and the two staging buffers. -/
def bodyPre (c : Dev nD) : sProp 𝕄 :=
  iprop(start m ρ c ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))
/-- What the body ends with: its cells at zero, nothing owed, and the two staging buffers as said. -/
def bodyPost (c : Dev nD) : sProp 𝕄 :=
  iprop(ended c ∗ (dats m ρ 0 c).owesAt () t0_0.succ ∗ stg c cc0_stg0_0 (xstg m ρ c) ∗ stg c cc0_stg1_0 (full (xstg m ρ) c))

/-- What the pipeline hands the body is what the body starts with, under some names. -/
theorem pre_start (c : Dev nD) : bodyPre m ρ c ⊢ iprop(∃ K, atStart (xstg m ρ) K c) := by
  unfold bodyPre start atStart
  iintro ⟨⟨⟨%K, HR, Hd⟩, Hc, HL⟩, Ho, ⟨%d0, %g0, %hg0, Hx⟩, ⟨%d1, %g1, %hg1, Hout⟩⟩
  have hx : g0 = xstg m ρ c := by rw [hg0]; unfold Dat.before; rw [if_pos (fetch0_0 t0_0)]; rfl
  subst hx
  unfold Dat.owesAt Pipeline.owesWithin
  icases Ho with ⟨%W, %hW, HO⟩
  iexists K
  isplitl [HR]; · iexact HR
  isplitl [HL]; · iexact HL
  isplitl [Hd]; · iexact Hd
  isplitl [Hc]; · iexact Hc
  isplitl [HO]; · iexists W; iexact HO
  isplitl [Hx]; · unfold xPts; iexact Hx
  iexists g1; iexact Hout

/-- What the body ends with is what the pipeline takes back. -/
theorem end_post (c : Dev nD) : atEnd (xstg m ρ) c ⊢ bodyPost m ρ c := by
  unfold bodyPost atEnd ended Dat.owesAt Pipeline.owesWithin
  rw [show (dats m ρ 0 c).owed t0_0.succ = 0 from rfl]
  iintro ⟨Hz, ⟨HD, HE⟩, ⟨%W, HO⟩, Hx, Hout⟩
  isplitl [Hz HD HE]
  · isplitl [Hz]; · iexact Hz
    isplitl [HD] <;> iassumption
  isplitl [HO]
  · iexists W
    isplitr; · ipureintro; exact fun _ _ => Or.inl trivial
    iexact HO
  isplitl [Hx]
  · iexists _; isplitr; · (ipureintro; rfl)
    unfold xPts; iexact Hx
  iexists _; isplitr; · (ipureintro; rfl)
  iexact Hout

set_option maxRecDepth 4000 in
/-- The body's obligation on device `c`. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show bodyPre m ρ c ⊢ Run c (cc0_body (F := F) xM (hstage0_0 0) oM (hstage0_1 0) cc0_scratch0 cc0_scratch1 cc0_scratch2 cc0_scratch3 cc0_scratch4 cc0_scratch5)
    (fun _ => bodyPost m ρ c)
  refine (pre_start m ρ c).trans ?_
  iintro ⟨%K, H⟩
  iapply ((body_run (xstg m ρ) K c).trans (run_mono fun _ => end_post m ρ c))
  iexact H

/-! ## Cells and tokens -/

/-- The kernel's own semaphores. -/
abbrev osem : Bool × Fin 32 → SemLoc sig := fun bt => csem (some bt)

/-- The semaphore of a send or receive cell names that cell. -/
theorem semOf_csem (b : Bool) (t : Fin 32) : ∃ s, csem (some (b, t)) = .dma s ∧ semOf s = some (b, t) := by
  cases b
  · exact ⟨_, rfl, semOf_send t⟩
  · exact ⟨_, rfl, semOf_recv t⟩

/-- Different cells are on different semaphores. -/
theorem csem_injective : Function.Injective csem := by
  rintro (_ | ⟨b, t⟩) (_ | ⟨b', t'⟩) h
  · rfl
  · obtain ⟨s, hs, -⟩ := semOf_csem b' t'; rw [hs] at h; cases h
  · obtain ⟨s, hs, -⟩ := semOf_csem b t; rw [hs] at h; cases h
  · obtain ⟨s, hs, e⟩ := semOf_csem b t
    obtain ⟨s', hs', e'⟩ := semOf_csem b' t'
    rw [hs, hs'] at h
    cases h
    exact e.symm.trans e'

/-- The body's own semaphores are those listed, each once, apart from the windows'. -/
theorem ownSemFacts : Pipeline.OwnSemFacts cfg0.spec osem where
  isScoped := by decide +kernel
  inj := csem_injective.comp (Option.some_injective _)
  disj := by decide +kernel

/-- The windows hold all of their arrays. -/
theorem share_eq (c : Dev nD) (w : Fin cfg0.W) : (dats m ρ 0 c).share w = fullShare := by unfold Dat.share; split <;> rfl

/-- Different devices or cells, different semaphores. -/
theorem kcell_injective : Function.Injective (kcell : Dev nD × Cell → GSem nD τ sig) := by
  rintro ⟨c, k⟩ ⟨c', k'⟩ h
  have h1 : c = c' := congrArg (fun g : GSem nD τ sig => g.1.1) h
  have h2 : k = k' := csem_injective (congrArg Prod.snd h)
  rw [h1, h2]

/-- All cells of all devices. -/
def allCells : Finset (GSem nD τ sig) := Finset.univ.map ⟨kcell, kcell_injective⟩

/-- A token of every cell for every axis; the transfers' cells use the first only. -/
abbrev tokOf (x : (Dev nD × Cell) × Fin 3) : GSem nD τ sig × ℕ × Fin 3 := (kcell x.1, 0, x.2)
/-- Different payments have different tokens. -/
theorem tokOf_injective : Function.Injective tokOf := fun x y h =>
  Prod.ext (kcell_injective (congrArg Prod.fst h)) (congrArg (fun z : GSem nD τ sig × ℕ × Fin 3 => z.2.2) h)
/-- The tokens of all payments. -/
def allToks : Finset (GSem nD τ sig × ℕ × Fin 3) := Finset.univ.map ⟨tokOf, tokOf_injective⟩

/-- The tokens and positions made at launch: those of the windows and those of the cells. -/
def u₀ : UU := (initOf (Pipeline.cells cfgs cellOf_inj) (Pipeline.launchToks cfgs cellOf_inj), initOf allCells allToks)

omit [FloatOps F] in
/-- Something for each cell of a device. -/
theorem by_cell (Φ : Cell → sProp 𝕄) : bigSep Finset.univ Φ
    = iprop(Φ none ∗ (bigSep Finset.univ fun t => Φ (some (false, t))) ∗ (bigSep Finset.univ fun t => Φ (some (true, t)))) := by
  have hU : (Finset.univ : Finset Cell) = insert none (Finset.univ.map Function.Embedding.some) := by decide +kernel
  rw [hU, bigSep_insert (by decide +kernel), bigSep_map, bigSep_univ_prod, bigSep_univ_eq_bigSepL [false, true] (by decide) (by decide)]
  rfl

/-- The tokens of device `c`'s own cells. -/
def toks (c : Dev nD) : sProp 𝕄 :=
  iprop((bigSep Finset.univ fun d => dutyTok ER (barCell c) 0 d) ∗ (bigSep Finset.univ fun t => dutyTok ER (sendCell c t) 0 0)
    ∗ (bigSep Finset.univ fun t => dutyTok ER (recvCell c t) 0 0))
/-- Its positions. -/
def places (c : Dev nD) : sProp 𝕄 :=
  iprop(atPos ER (barCell c) 0 ∅ 0 ∗ (bigSep Finset.univ fun t => atPos ER (sendCell c t) 0 ∅ 0) ∗ (bigSep Finset.univ fun t => atPos ER (recvCell c t) 0 ∅ 0))
/-- The tokens it pays with. -/
def pays (c : Dev nD) : sProp 𝕄 :=
  iprop((bigSep Finset.univ fun d => dutyTok ER (barCell (nb d c)) 0 d) ∗ (bigSep Finset.univ fun t => dutyTok ER (sendCell c t) 0 0)
    ∗ (bigSep Finset.univ fun t => dutyTok ER (recvCell (peer t c) t) 0 0))

/-- What the launch deals device `c`; -/
def G (c : Dev nD) : sProp 𝕄 :=
  iprop((bigSep Finset.univ fun k : Cell => roundState ER (plan (xstg m ρ)) (kcell (c, k)) 0)
    ∗ (bigSep Finset.univ fun k : Cell => reached ER (kcell (c, k)) 0) ∗ places c ∗ toks c)
/-- and what it has once all invariants stand and the tokens are dealt. -/
def G' (c : Dev nD) : sProp 𝕄 := iprop(∃ K, records (xstg m ρ) K ∗ dealt c)

omit [FloatOps F] in
/-- A device's tokens, cell by cell. -/
theorem toks_of (c : Dev nD) : (bigSep Finset.univ fun k : Cell => bigSep Finset.univ fun d : Fin 3 => (dutyTok ER (kcell (c, k)) 0 d : sProp 𝕄)) ⊢ toks c := by
  rw [by_cell]
  unfold toks
  refine sep_mono_right (BIClass.sep_mono ?_ ?_)
  · exact bigSep_mono fun t _ => bigSep_elim (Finset.mem_univ (0 : Fin 3))
  · exact bigSep_mono fun t _ => bigSep_elim (Finset.mem_univ (0 : Fin 3))

omit [FloatOps F] in
/-- The ghost state made at launch is every device's share of it. -/
theorem fund_all : BI.own (ER (initOf allCells allToks)) ⊢ (|==> bigSep Finset.univ (G m ρ) : sProp 𝕄) := by
  have hX (Φ : GSem nD τ sig → sProp 𝕄) : bigSep allCells Φ = bigSep Finset.univ fun c : Dev nD => bigSep Finset.univ fun k : Cell => Φ (kcell (c, k)) := by
    unfold allCells; rw [bigSep_map, bigSep_univ_prod]; rfl
  have hT : bigSep allToks (fun x => (dutyTok ER x.1 x.2.1 x.2.2 : sProp 𝕄)) ⊢ bigSep Finset.univ fun c : Dev nD => toks c := by
    unfold allToks; rw [bigSep_map, bigSep_univ_prod, bigSep_univ_prod]
    exact bigSep_mono fun c _ => toks_of c
  have hP : (bigSep Finset.univ fun c : Dev nD => bigSep Finset.univ fun k : Cell => (atPos ER (kcell (c, k)) 0 ∅ 0 : sProp 𝕄)) = bigSep Finset.univ fun c : Dev nD => places c :=
    bigSep_congr fun c _ => by rw [by_cell]; rfl
  iintro HX
  imod (Rounds.fund ER (plan (xstg m ρ)) allCells allToks) $$ HX with ⟨Hst, Hr, Hat, Htok⟩
  imodintro
  ihave Hst := (Entails.of_eq (hX fun g => roundState ER (plan (xstg m ρ)) g 0)) $$ Hst
  ihave Hat := (Entails.of_eq ((hX fun g => atPos ER g 0 ∅ 0).trans hP)) $$ Hat
  ihave Hr := (Entails.of_eq (hX fun g => reached ER g 0)) $$ Hr
  ihave Htok := hT $$ Htok
  unfold G; simp only [bigSep_sep']
  isplitl [Hst]; · iexact Hst
  isplitl [Hr]; · iexact Hr
  isplitl [Hat] <;> iassumption

/-! ## Semaphores at zero -/

omit [FloatOps F] in
/-- The body's own semaphores at zero are its send and receive cells at zero. -/
theorem ownSems0_eq (c : Dev nD) : (Pipeline.ownSems0 (Ix := Unit) (Name := ℕ) (U := UU) (Lvl := ℕ) (Val := Elt F) (τ := τ) osem c : sProp 𝕄)
    = iprop((bigSep Finset.univ fun t => semVal (sendCell c t) 0) ∗ (bigSep Finset.univ fun t => semVal (recvCell c t) 0)) := by
  unfold Pipeline.ownSems0
  rw [bigSep_univ_prod, bigSep_univ_eq_bigSepL [false, true] (by decide) (by decide)]
  rfl
omit [FloatOps F] in
/-- The one semaphore the body does not free is the barrier. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- All cells of a device at zero. -/
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Cell => semVal (kcell (c, k)) 0 : sProp 𝕄) := by
  rw [ownSems0_eq, unscopedSems0_eq, by_cell]
  iintro ⟨⟨HS, HV⟩, HB⟩
  isplitl [HB]; · iexact HB
  isplitl [HS] <;> iassumption

omit [FloatOps F] in
/-- One device's invariants established. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (plan (xstg m ρ)) κ (kcell (c, k))))
          ∗ (bigSep Finset.univ fun k : Cell => reached ER (kcell (c, k)) 0) ∗ places c ∗ toks c) := by
  unfold G
  iintro ⟨Hos, Hus, Hst, Hrest⟩
  ihave Hv := (sems0_eq (F := F) c) $$ [Hos Hus]
  · isplitl [Hos] <;> iassumption
  imod (show iprop((bigSep Finset.univ fun k : Cell => semVal (kcell (c, k)) 0) ∗ bigSep Finset.univ fun k : Cell => roundState ER (plan (xstg m ρ)) (kcell (c, k)) 0)
      ⊢ (|={Set.univ}=> bigSep Finset.univ fun k => iprop(∃ κ : ℕ, cellInv ER (plan (xstg m ρ)) κ (kcell (c, k))) : sProp 𝕄) from by
        rw [← bigSep_sep']
        exact (bigSep_mono fun k _ => (Rounds.body_intro ER (plan (xstg m ρ)) (kcell (c, k))).trans inv_alloc).trans (bigSep_fupd _ _)) $$ [Hv Hst] with Hinv
  · isplitl [Hv] <;> iassumption
  imodintro
  isplitl [Hinv]; · iexact Hinv
  iexact Hrest

omit [FloatOps F] in
/-- Something for each device and each index, dealt out along a permutation of the devices for each index. -/
theorem around {I : Type} [Fintype I] [DecidableEq I] (e : I → Fin 8 → Fin 8) (he : ∀ i c, e i (e i c) = c) (Φ : I → Dev nD → sProp 𝕄) :
    (bigSep Finset.univ fun c : Dev nD => bigSep Finset.univ fun i => Φ i c) = bigSep Finset.univ fun c : Dev nD => bigSep Finset.univ fun i => Φ i (e i c) := by
  have swap (Ψ : I → Dev nD → sProp 𝕄) : (bigSep Finset.univ fun c : Dev nD => bigSep Finset.univ fun i => Ψ i c) = bigSep Finset.univ fun i => bigSep Finset.univ fun c : Dev nD => Ψ i c := by
    rw [← bigSep_univ_prod (fun ci : Dev nD × I => Ψ ci.2 ci.1), ← bigSep_univ_prod (fun ic : I × Dev nD => Ψ ic.1 ic.2),
      bigSep_univ_equiv (Equiv.prodComm (Dev nD) I) (fun ic : I × Dev nD => Ψ ic.1 ic.2)]
    rfl
  rw [swap, swap]
  exact bigSep_congr fun i _ => bigSep_univ_equiv (⟨e i, e i, he i, he i⟩ : Dev nD ≃ Dev nD) (Φ i)

omit [FloatOps F] in
/-- Every token given to the device that pays with it. -/
theorem toks_around : (bigSep Finset.univ fun c : Dev nD => (toks c : sProp 𝕄)) = bigSep Finset.univ fun c : Dev nD => pays c := by
  unfold toks pays
  rw [bigSep_sep', bigSep_sep', bigSep_sep', bigSep_sep',
    around nb nb_nb (fun d c => (dutyTok ER (barCell c) 0 d : sProp 𝕄)), around peer peer_peer (fun t c => (dutyTok ER (recvCell c t) 0 0 : sProp 𝕄))]

omit [FloatOps F] in
/-- What may be used again and again can be used at every index. -/
theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

omit [FloatOps F] in
/-- A device gets the records, its positions and the tokens of what it pays. -/
theorem dealt_intro (K : Dev nD × Cell → ℕ) (c : Dev nD) : iprop(records (xstg m ρ) K ∗ places c ∗ pays c) ⊢ G' m ρ c := by
  unfold G' dealt places pays
  iintro ⟨HR, ⟨H1, H2, H3⟩, H4, H5, H6⟩
  iexists K
  isplitl [HR]; · iexact HR
  isplitl [H1]; · iexact H1
  isplitl [H2]; · iexact H2
  isplitl [H3]; · iexact H3
  isplitl [H4]; · iexact H4
  isplitl [H5] <;> iassumption

omit [FloatOps F] in
/-- The tokens, made where they are received, are dealt to those who pay. -/
theorem regroup :
    (bigSep Finset.univ fun c : Dev nD => iprop((bigSep Finset.univ fun k => iprop(∃ κ : ℕ, cellInv ER (plan (xstg m ρ)) κ (kcell (c, k))))
          ∗ (bigSep Finset.univ fun k : Cell => reached ER (kcell (c, k)) 0) ∗ places c ∗ toks c) : sProp 𝕄)
      ⊢ bigSep Finset.univ (G' m ρ) := by
  rw [bigSep_sep', bigSep_sep', bigSep_sep', toks_around, ← bigSep_univ_prod (fun ck : Dev nD × Cell => iprop(∃ κ : ℕ, cellInv ER (plan (xstg m ρ)) κ (kcell ck))),
    ← bigSep_univ_prod (fun ck : Dev nD × Cell => (reached ER (kcell ck) 0 : sProp 𝕄))]
  iintro ⟨HI, #HR, Hat, Htok⟩
  ihave HK := (BI.bigSep_exists_pi Finset.univ (fun (ck : Dev nD × Cell) (κ : ℕ) => (cellInv ER (plan (xstg m ρ)) κ (kcell ck) : sProp 𝕄))) $$ HI
  icases HK with ⟨%K, #HI⟩
  iapply (with_persistent (R := records (xstg m ρ) K) fun c _ => dealt_intro m ρ K c)
  isplitr
  · unfold records; isplitl; · iexact HI
    iexact HR
  · simp only [bigSep_sep']
    isplitl [Hat] <;> iassumption

omit [FloatOps F] in
/-- All devices' invariants at once, and every token where it is paid with. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The credit at launch -/

/-- A barrier cell names its device. -/
theorem bar_iff {a b : Dev nD} : barCell a = barCell b ↔ a = b := ⟨fun h => congrArg (fun g : GSem nD τ sig => g.1.1) h, fun h => h ▸ rfl⟩
/-- A receive cell names its device and its transfer. -/
theorem recv_iff {a b : Dev nD} {t u : Fin 32} : recvCell a t = recvCell b u ↔ a = b ∧ t = u :=
  ⟨fun h => by
    have h' := kcell_injective (a₁ := (a, some (true, t))) (a₂ := (b, some (true, u))) h
    exact ⟨congrArg Prod.fst h', by have := congrArg Prod.snd h'; cases this; rfl⟩, fun ⟨h, h'⟩ => h ▸ h' ▸ rfl⟩
/-- A receive cell is no barrier cell. -/
theorem recv_ne_bar {a b : Dev nD} {t : Fin 32} : recvCell a t ≠ barCell b := fun h => by cases congrArg Prod.snd h

/-- A device's transfers owe nothing to a barrier. -/
theorem due_bar (d c : Dev nD) : due d Finset.univ (barCell c) () = 0 := by
  by_contra h
  obtain ⟨t, -, e⟩ := due_pos (Nat.pos_of_ne_zero h)
  exact recv_ne_bar e.symm

/-- To a receive cell only the device that sends to it owes, and it owes a whole landing. -/
theorem due_recv (d c : Dev nD) (t : Fin 32) : due d Finset.univ (recvCell c t) () = if d = peer t c then N else 0 := by
  unfold due
  rw [Finset.sum_apply, Finsupp.finsetSum_apply, Finset.sum_eq_single t]
  · rw [tallyAt_apply]
    by_cases h : d = peer t c
    · rw [if_pos h, if_pos ⟨recv_iff.mpr ⟨by rw [h, peer_peer], rfl⟩, rfl⟩]
    · rw [if_neg h, if_neg fun e => h (by rw [(recv_iff.mp e.1).1, peer_peer])]
  · intro u _ hu
    rw [tallyAt_apply, if_neg fun e => hu (recv_iff.mp e.1).2.symm]
  · exact fun h => absurd (Finset.mem_univ t) h

/-- A device's signal counts on its neighbour's barrier only. -/
theorem bar_tally (d c : Dev nD) (a : Fin 3) : tallyAt (barCell (nb a d)) () 1 (barCell c) () = if d = nb a c then 1 else 0 := by
  rw [tallyAt_apply]
  by_cases h : d = nb a c
  · rw [if_pos h, if_pos ⟨bar_iff.mpr (by rw [h, nb_nb]), rfl⟩]
  · rw [if_neg h, if_neg fun e => h (by rw [bar_iff.mp e.1, nb_nb])]

/-- What a device owes a barrier at launch: a unit, if it is a neighbour. -/
theorem owed_bar (d c : Dev nD) : O₀ d (barCell c) () = (if d = nb 2 c then 1 else 0) + (if d = nb 1 c then 1 else 0) + (if d = nb 0 c then 1 else 0) := by
  unfold O₀ O₁ O₂
  rw [Pi.add_apply, Finsupp.add_apply, Pi.add_apply, Finsupp.add_apply, Pi.add_apply, Finsupp.add_apply, due_bar, bar_tally, bar_tally, bar_tally, Nat.zero_add]

/-- What a device owes a receive cell at launch: a whole landing, if it is the sender. -/
theorem owed_recv (d c : Dev nD) (t : Fin 32) : O₀ d (recvCell c t) () = if d = peer t c then N else 0 := by
  unfold O₀ O₁ O₂
  rw [Pi.add_apply, Finsupp.add_apply, Pi.add_apply, Finsupp.add_apply, Pi.add_apply, Finsupp.add_apply, due_recv, tallyAt_ne_cell recv_ne_bar,
    tallyAt_ne_cell recv_ne_bar, tallyAt_ne_cell recv_ne_bar, Finsupp.zero_apply]
  rfl

/-- In all, three units are owed to each barrier. -/
theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib, Finset.sum_add_distrib,
    Finset.sum_ite_eq' Finset.univ (nb 0 c) fun _ => 1, Finset.sum_ite_eq' Finset.univ (nb 1 c) fun _ => 1, Finset.sum_ite_eq' Finset.univ (nb 2 c) fun _ => 1,
    if_pos (Finset.mem_univ _), if_pos (Finset.mem_univ _), if_pos (Finset.mem_univ _)]

/-- In all, one landing is owed to each receive cell. -/
theorem launch_recv (c : Dev nD) (t : Fin 32) :
    tallyOn (recvCell c t) (launchCredit (Pipeline.owing O₀) 0 (recvCell c t)) = (tallyAt (recvCell c t) () N : CellTallies nD τ sig Unit) := by
  unfold tallyAt; refine congrArg _ (Finsupp.ext fun u => ?_); cases u
  rw [Pipeline.launchCredit_owing, Finsupp.single_eq_same, Finset.sum_congr rfl fun d _ => owed_recv d c t, Finset.sum_ite_eq' Finset.univ (peer t c) fun _ => N,
    if_pos (Finset.mem_univ _)]

omit [FloatOps F] in
/-- A device's credits at launch: three units on its barrier and a landing on each receive cell. -/
theorem creds (c : Dev nD) : (Pipeline.launchCred O₀ c : sProp 𝕄) ⊢ credits c := by
  unfold Pipeline.launchCred credits
  refine (bigSep_subset (Finset.subset_univ (Finset.univ.map ⟨csem, csem_injective⟩))).trans ?_
  rw [bigSep_map, by_cell]
  refine BIClass.sep_mono (Entails.of_eq (congrArg (fun T => cred T) (launch_bar c))) (sep_elim_right.trans (bigSep_mono fun t _ => ?_))
  exact Entails.of_eq (congrArg (fun T => cred T) (launch_recv c t))

/-! ## What the launch asks -/

omit [FloatOps F] in
/-- What the launch gives a device is its start. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  · iempintro

/-- The start is what the body's first point asks. -/
theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = start m ρ c from rfl]
  iintro ⟨Hs, -, -⟩
  iexact Hs

/-- The end gives back every semaphore at zero. -/
theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = ended c from rfl, scopedRest0_eq, ownSems0_eq, unscopedSems0_eq]
  unfold ended
  iintro ⟨HB, HS, HV⟩
  isplitl [HB]; · iexact HB
  isplitl
  · isplitl [HS] <;> iassumption
  iempintro

/-- The windows' own waits are below whatever is owed. -/
theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- What the windows' arrays hold at the end. -/
def finalA (c : Dev nD) (w : Fin cfg0.W) : Buf (Elt F) ((cfg0.win w).arr.view.loc (c : Thread nD τ)) := (dats m ρ 0 c).arrAt w cfg0.N

/-- The windows' arrays, on every device, hold what was computed. -/
def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with every counter at zero, every fair run of the eight devices ends, with each window's array as computed
    and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_all m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The block of `x` after the run is what it was. -/
theorem finalA_x (c : Dev nD) : finalA m ρ c (0 : Fin 2) = (s₀ m ρ).mem (win0_0.arr.view.loc (c : Thread nD τ)) :=
  (dats (F := F) m ρ 0 c).arrAt_in (0 : Fin 2) rfl _

end Cert.Gather

end
-- ==== Proof.Value.lean ====
/-
The result's value

The kernel's result array on every device, as a function of the devices' blocks, and that it is the whole array the blocks were
cut from.
-/
module

public import proofs.«01_k».proof.Proof.Launch
public import Idealize.ShloMosaic.Lib.Layout

@[expose] public section

noncomputable section

namespace Cert.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Op
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What the arrays hold after the run -/

/-- The argument's one block is the argument's array. -/
theorem xstg_eq (c : Dev nD) : xstg m ρ c = m ((c : Thread nD τ).loc main_arg0) :=
  Memref.read_access_unit_zero (Elt F) main_arg0 (off := fun a => (win0_0.index (0 : Fin 1)) a * main_arg0.ty.shape.size a)
    (funext fun a => by fin_cases a <;> decide) (fun a => by fin_cases a <;> decide) _

/-- The result's array holds what the body left in the staging buffer. -/
theorem finalA_out (c : Dev nD) : finalA m ρ c (1 : Fin 2) = full (xstg m ρ) c := by
  have h : (win0_1.blk (0 : Fin 1)).view.read (Elt F) (finalA m ρ c (1 : Fin 2)) = full (xstg m ρ) c := by
    unfold finalA
    rw [show cfg0.N = ((0 : Fin 1) : Fin cfg0.N).val + 1 from rfl, (dats m ρ 0 c).arrAt_succ (1 : Fin 2) (0 : Fin 1),
      if_pos (show (cfg0.win (1 : Fin 2)).flush (0 : Fin 1) = true by decide)]
    exact View.read_write_univ _ _
  refine Eq.trans (Eq.symm ?_) h
  exact Memref.read_access_unit_zero (Elt F) main_v1 (off := fun a => (win0_1.index (0 : Fin 1)) a * main_v1.ty.shape.size a)
    (funext fun a => by fin_cases a <;> decide) (fun a => by fin_cases a <;> decide) _

/-- From any memory with every counter at zero, every fair run of the eight devices ends; on every device the result is the
    devices' blocks put together and the argument is unchanged, and every counter is zero. -/
theorem run_values : θ_run defs (onTc (τ := τ) (main (F := F))) ⟨m, fun _ => 0, ρ⟩ fun r =>
    (∀ c : Dev nD, r.2.mem ((c : Thread nD τ).loc main_v1) = full (fun d : Dev nD => m ((d : Thread nD τ).loc main_arg0)) c
      ∧ r.2.mem ((c : Thread nD τ).loc main_arg0) = m ((c : Thread nD τ).loc main_arg0)) ∧ r.2.sem = fun _ => 0 :=
  (θ_run defs _ _).mono (fun _ h => ⟨fun c => ⟨((h.1 c (1 : Fin 2)).trans (finalA_out m ρ c)).trans
      (congrArg (fun xs => full xs c) (funext (xstg_eq m ρ))), (h.1 c (0 : Fin 2)).trans (finalA_x m ρ c)⟩, h.2⟩) (run_main m ρ)

/-- Of that, what says nothing of the result. -/
theorem run_frame : θ_run defs (onTc (τ := τ) (main (F := F))) ⟨m, fun _ => 0, ρ⟩ fun r =>
    (∀ c : Dev nD, r.2.mem ((c : Thread nD τ).loc main_arg0) = m ((c : Thread nD τ).loc main_arg0)) ∧ r.2.sem = fun _ => 0 :=
  (θ_run defs _ _).mono (fun _ h => ⟨fun c => (h.1 c).2, h.2⟩) (run_values m ρ)

/-! ## The blocks put together are the whole array -/

omit [FloatOps F] in
/-- When device `d`'s block is the half of `X` that its place along the mesh's first axis names, every device ends with `X`. -/
theorem full_of_halves (xs : Fin 8 → XBuf F) (X : OBuf F)
    (h : ∀ d : Fin 8, xs d = Layout.blockN ⟨2, ![2048, 512]⟩ ⟨2, ![4096, 512]⟩ (Layout.meshBlock [2, 2, 2] ![[0], []] d) X) (c : Fin 8) :
    full xs c = X := by
  funext i
  unfold full
  rw [h, Layout.blockN_apply]
  have place : ∀ d : Fin 8, Layout.meshLin [2, 2, 2] d.val [0] = d.val / 4 := by decide
  have half : (origin c (chunkOf i)).val / 4 = (i 0).val / 64 / 32 := origin_half c (chunkOf i)
  refine congrArg X (funext fun a => Fin.ext ?_)
  rw [Layout.TilesN.idx_val, Layout.meshBlock_val]
  fin_cases a
  · show Layout.meshLin [2, 2, 2] (origin c (chunkOf i)).val [0] * 2048 + (i 0).val % 2048 = (i 0).val
    rw [place, half]
    omega
  · show 0 * 512 + (i 1).val = (i 1).val
    omega

end Cert.Gather

end
-- ==== Proof.Ref.lean ====
/-
The run of the reference

The reference gives back its argument: its program has no operation.
-/
module

public import proofs.«01_k».proof.Proof.Gen.ReferenceIdeal
public import Idealize.ShloMosaic.Lib.StableHlo.Run

@[expose] public section

noncomputable section

namespace Cert.Gather.Ref

open Cert.ReferenceIdeal Cert.ReferenceIdeal.Gen
open Idealize.ShloMosaic Idealize.ShloMosaic.StableHlo Idealize.SL.Sem

variable {F : FTy → Type} [FloatOps F]

/-- Every run of the reference ends with its argument, which is also its result, unchanged. -/
theorem run_main (m : (ℓ : Loc nD τ sig) → Buf (Elt F) ℓ) (ρ : Dev nD → PrngReg) :
    θ_run defs (onTc (τ := τ) (main (F := F))) ⟨m, fun _ => 0, ρ⟩ fun r =>
      ∀ c : Dev nD, r.2.mem ((c.tc : Thread nD τ).loc main_arg0) = m ((c.tc : Thread nD τ).loc main_arg0) :=
  (θ_run defs _ _).mono (fun _ h c => h c main_arg0)
    (run_seq (by decide) (by decide) defs main (fun _ => []) (fun _ => rfl) (fun _ => List.forall_iff_forall_mem.mpr (by simp)) m ρ)

end Cert.Gather.Ref

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Value
public import proofs.«01_k».proof.Proof.Ref
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The kernel is printed twice, once for each reading of its floats; both prints give its body the same text. -/
theorem bodies_same : Cert.Kernel.defs₀ (F := Bits) = Cert.KernelIdeal.defs₀ (F := Bits) :=
  congrArg Defs.onTc (funext fun l => funext fun a => match l, a with | 0, (_, _) => rfl)

/-- So both prints call the same bodies. -/
theorem defs_same : Cert.Kernel.defs (F := Bits) = Cert.KernelIdeal.defs (F := Bits) :=
  congrArg (Pipeline.defs Cert.KernelIdeal.pcfgs) bodies_same

/-- The kernel at the machine's floats: every run ends, the blocks of `x` unchanged and every counter at zero. -/
theorem frame_kernel : Cert.quiescent_Kernel := fun m ρ _ =>
  Eq.mpr (congrArg (fun d => θ_run d (onTc (τ := Cert.Kernel.τ) (Cert.Kernel.main (F := Bits))) ⟨m, fun _ => 0, ρ⟩ fun r =>
      (∀ c : Dev nD, r.2.mem ((c.tc : Thread nD τ).loc main_arg0) = m ((c.tc : Thread nD τ).loc main_arg0)) ∧ r.2.sem = fun _ => 0) defs_same)
    (Cert.Gather.run_frame (F := Bits) m ρ)

/-- The same with floats read as numbers. -/
theorem frame_ideal : Cert.quiescent_KernelIdeal := fun m ρ _ => Cert.Gather.run_frame (F := Ideal) m ρ

/-- The reference: every run ends, its argument unchanged; it has no counter. -/
theorem frame_reference : Cert.quiescent_ReferenceIdeal := fun m ρ _ =>
  (θ_run Cert.ReferenceIdeal.defs _ _).mono (fun r h => ⟨h, sem_eq_zero_of_no_sems (by decide) r.2⟩)
    (Cert.Gather.Ref.run_main (F := Ideal) m ρ)

/-- Kernel and reference end with the same result: the whole array whose halves the devices were given. -/
theorem same_result : Cert.algebraic_KernelIdeal_ReferenceIdeal := fun m ρ m' ρ' _ halves =>
  ⟨m' (((0 : Dev Cert.ReferenceIdeal.nD).tc : Thread Cert.ReferenceIdeal.nD Cert.ReferenceIdeal.τ).loc Cert.ReferenceIdeal.main_arg0),
    (θ_run Cert.KernelIdeal.defs _ _).mono
      (fun _ h c => ⟨(h.1 c).1.trans (Cert.Gather.full_of_halves (F := Ideal) _ _ halves c), (h.1 c).2⟩)
      (Cert.Gather.run_values (F := Ideal) m ρ),
    (θ_run Cert.ReferenceIdeal.defs _ _).mono (fun _ h => ⟨h 0, h 0⟩) (Cert.Gather.Ref.run_main (F := Ideal) m' ρ')⟩

/-- Everything claimed. -/
theorem claim : Cert.Claim :=
  ⟨Cert.Kernel.Gen.facts, Cert.KernelIdeal.Gen.facts, Cert.ReferenceIdeal.Gen.facts,
    frame_kernel, frame_ideal, frame_reference, trivial, same_result⟩

end Cert.Proof

end
